-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)) (v4 : (c : Dev Cert.Kernel5Ideal.nD) → Buf (Elt Ideal) ((c.tc : Thread Cert.Kernel5Ideal.nD Cert.Kernel5Ideal.τ).loc Cert.Kernel5Ideal.main_v16_4)) (v5 : (c : Dev Cert.Kernel5Ideal.nD) → Buf (Elt Ideal) ((c.tc : Thread Cert.Kernel5Ideal.nD Cert.Kernel5Ideal.τ).loc Cert.Kernel5Ideal.main_v16_5)) (v6 : (c : Dev Cert.Kernel5Ideal.nD) → Buf (Elt Ideal) ((c.tc : Thread Cert.Kernel5Ideal.nD Cert.Kernel5Ideal.τ).loc Cert.Kernel5Ideal.main_v16_6)) (v7 : (c : Dev Cert.Kernel5Ideal.nD) → Buf (Elt Ideal) ((c.tc : Thread Cert.Kernel5Ideal.nD Cert.Kernel5Ideal.τ).loc Cert.Kernel5Ideal.main_v16_7)) (v8 : (c : Dev Cert.Kernel5Ideal.nD) → Buf (Elt Ideal) ((c.tc : Thread Cert.Kernel5Ideal.nD Cert.Kernel5Ideal.τ).loc Cert.Kernel5Ideal.main_v16_8)) (v9 : (c : Dev Cert.Kernel5Ideal.nD) → Buf (Elt Ideal) ((c.tc : Thread Cert.Kernel5Ideal.nD Cert.Kernel5Ideal.τ).loc Cert.Kernel5Ideal.main_v16_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_v16_4) = v4 c
          ∧ r.2.mem ((c.tc : Thread Cert.Kernel5Ideal.nD Cert.Kernel5Ideal.τ).loc Cert.Kernel5Ideal.main_v16_5) = v5 c
          ∧ r.2.mem ((c.tc : Thread Cert.Kernel5Ideal.nD Cert.Kernel5Ideal.τ).loc Cert.Kernel5Ideal.main_v16_6) = v6 c
          ∧ r.2.mem ((c.tc : Thread Cert.Kernel5Ideal.nD Cert.Kernel5Ideal.τ).loc Cert.Kernel5Ideal.main_v16_7) = v7 c
          ∧ r.2.mem ((c.tc : Thread Cert.Kernel5Ideal.nD Cert.Kernel5Ideal.τ).loc Cert.Kernel5Ideal.main_v16_8) = v8 c
          ∧ r.2.mem ((c.tc : Thread Cert.Kernel5Ideal.nD Cert.Kernel5Ideal.τ).loc Cert.Kernel5Ideal.main_v16_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v37) = v4 c
          ∧ r.2.mem ((c.tc : Thread Cert.Reference5Ideal.nD Cert.Reference5Ideal.τ).loc Cert.Reference5Ideal.main_v39) = v5 c
          ∧ r.2.mem ((c.tc : Thread Cert.Reference5Ideal.nD Cert.Reference5Ideal.τ).loc Cert.Reference5Ideal.main_v41) = v6 c
          ∧ r.2.mem ((c.tc : Thread Cert.Reference5Ideal.nD Cert.Reference5Ideal.τ).loc Cert.Reference5Ideal.main_v43) = v7 c
          ∧ r.2.mem ((c.tc : Thread Cert.Reference5Ideal.nD Cert.Reference5Ideal.τ).loc Cert.Reference5Ideal.main_v45) = v8 c
          ∧ r.2.mem ((c.tc : Thread Cert.Reference5Ideal.nD Cert.Reference5Ideal.τ).loc Cert.Reference5Ideal.main_v47) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite3 : Cert.Pre_finite3.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite3.lean ====
abbrev S16x2048x1024 : Shape := ⟨3, ![16, 2048, 1024]⟩
abbrev S2x1024 : Shape := ⟨2, ![2, 1024]⟩
abbrev S2x1024x1024 : Shape := ⟨3, ![2, 1024, 1024]⟩
abbrev S2x16x1024x256 : Shape := ⟨4, ![2, 16, 1024, 256]⟩
abbrev S2x16x256x1024 : Shape := ⟨4, ![2, 16, 256, 1024]⟩
abbrev S_ : Shape := ⟨0, ![]⟩

class Facts : Prop where
  bcast_S_S16x2048x1024 : S_.BroadcastsInDim S16x2048x1024 (![] : Fin 0 → Fin S16x2048x1024.rank)
  bcast_S_S2x1024 : S_.BroadcastsInDim S2x1024 (![] : Fin 0 → Fin S2x1024.rank)
  bcast_S_S2x1024x1024 : S_.BroadcastsInDim S2x1024x1024 (![] : Fin 0 → Fin S2x1024x1024.rank)
  bcast_S_S2x16x1024x256 : S_.BroadcastsInDim S2x16x1024x256 (![] : Fin 0 → Fin S2x16x1024x256.rank)

variable [Facts]

def fn {F : FTy → Type} [FloatOps F] (main_arg0 : FVec F S16x2048x1024 .f32) (main_arg1 : FVec F S2x1024 .f32) (main_arg2 : FVec F S2x1024x1024 .f32) (main_arg3 : FVec F S2x16x1024x256 .f32) (main_arg4 : FVec F S2x16x256x1024 .f32) (main_arg5 : FVec F S2x1024x1024 .f32) : IVec S16x2048x1024 1 × IVec S2x1024 1 × IVec S2x1024x1024 1 × IVec S2x16x1024x256 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x1024 .f32 := Host.absf main_arg2
  let main_cst_1 : FVec F S_ .f32 := constant S_ .f32 0x7F800000#32
  let main_v7 : FVec F S2x1024x1024 .f32 := broadcastInDim S2x1024x1024 ![] bcast_S_S2x1024x1024 main_cst_1
  let main_v8 : IVec S2x1024x1024 1 := cmpf .olt main_v6 main_v7
  let main_v9 : FVec F S2x16x1024x256 .f32 := Host.absf main_arg3
  let main_cst_2 : FVec F S_ .f32 := constant S_ .f32 0x7F800000#32
  let main_v10 : FVec F S2x16x1024x256 .f32 := broadcastInDim S2x16x1024x256 ![] bcast_S_S2x16x1024x256 main_cst_2
  let main_v11 : IVec S2x16x1024x256 1 := cmpf .olt main_v9 main_v10
  (main_v2, main_v5, main_v8, main_v11)
-- ==== Kernel.lean ====
abbrev S16x2048x1024 : Shape := ⟨3, ![16, 2048, 1024]⟩
abbrev S2x1024 : Shape := ⟨2, ![2, 1024]⟩
abbrev S2x1024x1408 : Shape := ⟨3, ![2, 1024, 1408]⟩
abbrev S2x1024x1024 : Shape := ⟨3, ![2, 1024, 1024]⟩
abbrev S2x24x64 : Shape := ⟨3, ![2, 24, 64]⟩
abbrev S2x24 : Shape := ⟨2, ![2, 24]⟩
abbrev S2x24x64x16 : Shape := ⟨4, ![2, 24, 64, 16]⟩
abbrev S2x24x16x64 : Shape := ⟨4, ![2, 24, 16, 64]⟩
abbrev S2x384 : Shape := ⟨2, ![2, 384]⟩
abbrev S2x384x384 : Shape := ⟨3, ![2, 384, 384]⟩
abbrev S2x4x64x64 : Shape := ⟨4, ![2, 4, 64, 64]⟩
abbrev S2x256 : Shape := ⟨2, ![2, 256]⟩
abbrev S2x31x384 : Shape := ⟨3, ![2, 31, 384]⟩
abbrev S256x256 : Shape := ⟨2, ![256, 256]⟩
abbrev S4x4 : Shape := ⟨2, ![4, 4]⟩
abbrev S_ : Shape := ⟨0, ![]⟩
abbrev S1x24x64 : Shape := ⟨3, ![1, 24, 64]⟩
abbrev S24x64 : Shape := ⟨2, ![24, 64]⟩
abbrev S1x24 : Shape := ⟨2, ![1, 24]⟩
abbrev S24 : Shape := ⟨1, ![24]⟩
abbrev S1x24x64x16 : Shape := ⟨4, ![1, 24, 64, 16]⟩
abbrev S24x64x16 : Shape := ⟨3, ![24, 64, 16]⟩
abbrev S1x24x16x64 : Shape := ⟨4, ![1, 24, 16, 64]⟩
abbrev S24x16x64 : Shape := ⟨3, ![24, 16, 64]⟩
abbrev S24x1 : Shape := ⟨2, ![24, 1]⟩
abbrev S24x64x1 : Shape := ⟨3, ![24, 64, 1]⟩
abbrev S8x8 : Shape := ⟨2, ![8, 8]⟩
abbrev S3x8x64x16 : Shape := ⟨4, ![3, 8, 64, 16]⟩
abbrev S3x8x16x64 : Shape := ⟨4, ![3, 8, 16, 64]⟩
abbrev S3x8x16x1x64 : Shape := ⟨5, ![3, 8, 16, 1, 64]⟩
abbrev S1x8x1x8x1 : Shape := ⟨5, ![1, 8, 1, 8, 1]⟩
abbrev S3x8x16x8x64 : Shape := ⟨5, ![3, 8, 16, 8, 64]⟩
abbrev S3x128x512 : Shape := ⟨3, ![3, 128, 512]⟩
abbrev S3x128x1024 : Shape := ⟨3, ![3, 128, 1024]⟩
abbrev S1x1536 : Shape := ⟨2, ![1, 1536]⟩
abbrev S8x1536 : Shape := ⟨2, ![8, 1536]⟩
abbrev S16x1536 : Shape := ⟨2, ![16, 1536]⟩
abbrev S3x8x64x1x16 : Shape := ⟨5, ![3, 8, 64, 1, 16]⟩
abbrev S3x8x64x8x16 : Shape := ⟨5, ![3, 8, 64, 8, 16]⟩
abbrev S3x512x128 : Shape := ⟨3, ![3, 512, 128]⟩
abbrev S1x4x64x64 : Shape := ⟨4, ![1, 4, 64, 64]⟩
abbrev S4x64x64 : Shape := ⟨3, ![4, 64, 64]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S1x31x384 : Shape := ⟨3, ![1, 31, 384]⟩
abbrev S31x384 : Shape := ⟨2, ![31, 384]⟩
abbrev S31x8x384 : Shape := ⟨3, ![31, 8, 384]⟩
abbrev S248x384 : Shape := ⟨2, ![248, 384]⟩
abbrev S1x1024 : Shape := ⟨2, ![1, 1024]⟩
abbrev S1024 : Shape := ⟨1, ![1024]⟩
abbrev S1x384 : Shape := ⟨2, ![1, 384]⟩
abbrev S384 : Shape := ⟨1, ![384]⟩
abbrev S1x384x384 : Shape := ⟨3, ![1, 384, 384]⟩
abbrev S384x384 : Shape := ⟨2, ![384, 384]⟩
abbrev S1x256 : Shape := ⟨2, ![1, 256]⟩
abbrev S256 : Shape := ⟨1, ![256]⟩
abbrev S8x64x1024 : Shape := ⟨3, ![8, 64, 1024]⟩
abbrev S1x1024x1408 : Shape := ⟨3, ![1, 1024, 1408]⟩
abbrev S1x1024x1024 : Shape := ⟨3, ![1, 1024, 1024]⟩
abbrev S512x1408 : Shape := ⟨2, ![512, 1408]⟩
abbrev S512x3072 : Shape := ⟨2, ![512, 3072]⟩
abbrev S8x3072 : Shape := ⟨2, ![8, 3072]⟩
abbrev S128x256 : Shape := ⟨2, ![128, 256]⟩
abbrev S240x384 : Shape := ⟨2, ![240, 384]⟩
abbrev S512x384 : Shape := ⟨2, ![512, 384]⟩
abbrev S752x384 : Shape := ⟨2, ![752, 384]⟩
abbrev S8x384 : Shape := ⟨2, ![8, 384]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S32x1024 : Shape := ⟨2, ![32, 1024]⟩
abbrev S256x1024 : Shape := ⟨2, ![256, 1024]⟩
abbrev S16x128 : Shape := ⟨2, ![16, 128]⟩
abbrev S16x256 : Shape := ⟨2, ![16, 256]⟩
abbrev S240x256 : Shape := ⟨2, ![240, 256]⟩
abbrev S16x1024 : Shape := ⟨2, ![16, 1024]⟩
abbrev S496x1024 : Shape := ⟨2, ![496, 1024]⟩
abbrev S1x1024x256 : Shape := ⟨3, ![1, 1024, 256]⟩
abbrev S1024x256 : Shape := ⟨2, ![1024, 256]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩
abbrev S496x128 : Shape := ⟨2, ![496, 128]⟩
abbrev S1x128x1024 : Shape := ⟨3, ![1, 128, 1024]⟩
abbrev S128x1024 : Shape := ⟨2, ![128, 1024]⟩
abbrev S512x512 : Shape := ⟨2, ![512, 512]⟩
abbrev S1x512x128 : Shape := ⟨3, ![1, 512, 128]⟩
abbrev S640x256 : Shape := ⟨2, ![640, 256]⟩
abbrev S632x256 : Shape := ⟨2, ![632, 256]⟩
abbrev S616x256 : Shape := ⟨2, ![616, 256]⟩
abbrev S584x256 : Shape := ⟨2, ![584, 256]⟩
abbrev S520x256 : Shape := ⟨2, ![520, 256]⟩
abbrev S1024x1024 : Shape := ⟨2, ![1024, 1024]⟩

abbrev nBuf : Space → Nat
  | .hbm => 172
  | .vmem => 30
  | .smem => 0
  | _ => 0

abbrev hbmTy0_0 (i : Nat) : BufTy := match i % 128 with
  | 0 => ⟨S16x2048x1024, .f32⟩
  | 1 => ⟨S2x1024, .f32⟩
  | 2 => ⟨S2x1024x1408, .f32⟩
  | 3 => ⟨S2x1024x1024, .f32⟩
  | 4 => ⟨S2x24x64, .f32⟩
  | 5 => ⟨S2x24x64, .f32⟩
  | 6 => ⟨S2x24, .f32⟩
  | 7 => ⟨S2x24x64x16, .f32⟩
  | 8 => ⟨S2x24x64x16, .f32⟩
  | 9 => ⟨S2x24x16x64, .f32⟩
  | 10 => ⟨S2x24x16x64, .f32⟩
  | 11 => ⟨S2x384, .f32⟩
  | 12 => ⟨S2x384x384, .f32⟩
  | 13 => ⟨S2x4x64x64, .f32⟩
  | 14 => ⟨S2x256, .f32⟩
  | 15 => ⟨S2x31x384, .f32⟩
  | 16 => ⟨S2x384, .f32⟩
  | 17 => ⟨S2x384, .f32⟩
  | 18 => ⟨S2x384, .f32⟩
  | 19 => ⟨S256x256, .bf16⟩
  | 20 => ⟨S256x256, .bf16⟩
  | 21 => ⟨S4x4, .i32⟩
  | 22 => ⟨S4x4, .i32⟩
  | 23 => ⟨S_, .i32⟩
  | 24 => ⟨S4x4, .i32⟩
  | 25 => ⟨S4x4, .i32⟩
  | 26 => ⟨S4x4, .i1⟩
  | 27 => ⟨S4x4, .f32⟩
  | 28 => ⟨S1x24x64, .f32⟩
  | 29 => ⟨S24x64, .f32⟩
  | 30 => ⟨S1x24x64, .f32⟩
  | 31 => ⟨S24x64, .f32⟩
  | 32 => ⟨S1x24, .f32⟩
  | 33 => ⟨S24, .f32⟩
  | 34 => ⟨S1x24x64x16, .f32⟩
  | 35 => ⟨S24x64x16, .f32⟩
  | 36 => ⟨S1x24x64x16, .f32⟩
  | 37 => ⟨S24x64x16, .f32⟩
  | 38 => ⟨S1x24x16x64, .f32⟩
  | 39 => ⟨S24x16x64, .f32⟩
  | 40 => ⟨S1x24x16x64, .f32⟩
  | 41 => ⟨S24x16x64, .f32⟩
  | 42 => ⟨S24, .f32⟩
  | 43 => ⟨S24x1, .f32⟩
  | 44 => ⟨S24x64, .f32⟩
  | 45 => ⟨S24x64, .f32⟩
  | 46 => ⟨S24x64, .f32⟩
  | 47 => ⟨S24x64, .f32⟩
  | 48 => ⟨S24x64, .f32⟩
  | 49 => ⟨S24x64, .f32⟩
  | 50 => ⟨S24x64, .f32⟩
  | 51 => ⟨S24x64, .f32⟩
  | 52 => ⟨S24x64, .f32⟩
  | 53 => ⟨S24x64, .f32⟩
  | 54 => ⟨S24x64, .f32⟩
  | 55 => ⟨S24x64, .f32⟩
  | 56 => ⟨S24x64, .f32⟩
  | 57 => ⟨S24x64, .f32⟩
  | 58 => ⟨S_, .f32⟩
  | 59 => ⟨S24x64, .f32⟩
  | 60 => ⟨S24x64, .f32⟩
  | 61 => ⟨S24x64, .f32⟩
  | 62 => ⟨S24x64, .f32⟩
  | 63 => ⟨S24x64, .f32⟩
  | 64 => ⟨S24x64, .f32⟩
  | 65 => ⟨S24x64, .f32⟩
  | 66 => ⟨S_, .f32⟩
  | 67 => ⟨S24x64, .f32⟩
  | 68 => ⟨S24x64, .f32⟩
  | 69 => ⟨S24x64, .f32⟩
  | 70 => ⟨S24x64, .f32⟩
  | 71 => ⟨S24x64, .f32⟩
  | 72 => ⟨S24x64x1, .f32⟩
  | 73 => ⟨S24x64x16, .f32⟩
  | 74 => ⟨S24x64x16, .f32⟩
  | 75 => ⟨S24x64x1, .f32⟩
  | 76 => ⟨S24x64x16, .f32⟩
  | 77 => ⟨S24x64x16, .f32⟩
  | 78 => ⟨S24x64x16, .f32⟩
  | 79 => ⟨S24x64x1, .f32⟩
  | 80 => ⟨S24x64x16, .f32⟩
  | 81 => ⟨S24x64x16, .f32⟩
  | 82 => ⟨S24x64x1, .f32⟩
  | 83 => ⟨S24x64x16, .f32⟩
  | 84 => ⟨S24x64x16, .f32⟩
  | 85 => ⟨S24x64x16, .f32⟩
  | 86 => ⟨S8x8, .i32⟩
  | 87 => ⟨S8x8, .i32⟩
  | 88 => ⟨S_, .i32⟩
  | 89 => ⟨S8x8, .i32⟩
  | 90 => ⟨S8x8, .i32⟩
  | 91 => ⟨S8x8, .i1⟩
  | 92 => ⟨S8x8, .f32⟩
  | 93 => ⟨S3x8x64x16, .f32⟩
  | 94 => ⟨S3x8x16x64, .f32⟩
  | 95 => ⟨S3x8x16x1x64, .f32⟩
  | 96 => ⟨S1x8x1x8x1, .f32⟩
  | 97 => ⟨S3x8x16x8x64, .f32⟩
  | 98 => ⟨S3x8x16x8x64, .f32⟩
  | 99 => ⟨S3x8x16x8x64, .f32⟩
  | 100 => ⟨S3x128x512, .f32⟩
  | 101 => ⟨S3x8x64x16, .f32⟩
  | 102 => ⟨S3x8x16x64, .f32⟩
  | 103 => ⟨S3x8x16x1x64, .f32⟩
  | 104 => ⟨S1x8x1x8x1, .f32⟩
  | 105 => ⟨S3x8x16x8x64, .f32⟩
  | 106 => ⟨S3x8x16x8x64, .f32⟩
  | 107 => ⟨S3x8x16x8x64, .f32⟩
  | 108 => ⟨S3x128x512, .f32⟩
  | 109 => ⟨S3x128x1024, .f32⟩
  | 110 => ⟨S3x128x1024, .bf16⟩
  | 111 => ⟨S1x1536, .f32⟩
  | 112 => ⟨S8x1536, .f32⟩
  | 113 => ⟨S1x1536, .f32⟩
  | 114 => ⟨S8x1536, .f32⟩
  | 115 => ⟨S16x1536, .f32⟩
  | 116 => ⟨S3x8x16x64, .f32⟩
  | 117 => ⟨S3x8x64x16, .f32⟩
  | 118 => ⟨S3x8x64x1x16, .f32⟩
  | 119 => ⟨S1x8x1x8x1, .f32⟩
  | 120 => ⟨S3x8x64x8x16, .f32⟩
  | 121 => ⟨S3x8x64x8x16, .f32⟩
  | 122 => ⟨S3x8x64x8x16, .f32⟩
  | 123 => ⟨S3x512x128, .f32⟩
  | 124 => ⟨S3x512x128, .bf16⟩
  | 125 => ⟨S24x16x64, .f32⟩
  | 126 => ⟨S3x8x16x64, .f32⟩
  | 127 => ⟨S3x8x64x16, .f32⟩
  | _ => ⟨S16x2048x1024, .f32⟩

abbrev hbmTy0_1 (i : Nat) : BufTy := match i % 128 with
  | 0 => ⟨S3x8x64x1x16, .f32⟩
  | 1 => ⟨S1x8x1x8x1, .f32⟩
  | 2 => ⟨S3x8x64x8x16, .f32⟩
  | 3 => ⟨S3x8x64x8x16, .f32⟩
  | 4 => ⟨S3x8x64x8x16, .f32⟩
  | 5 => ⟨S3x512x128, .f32⟩
  | 6 => ⟨S3x512x128, .bf16⟩
  | 7 => ⟨S1x4x64x64, .f32⟩
  | 8 => ⟨S4x64x64, .f32⟩
  | 9 => ⟨S4x64x1x64, .f32⟩
  | 10 => ⟨S4x1x4x1, .f32⟩
  | 11 => ⟨S4x64x4x64, .f32⟩
  | 12 => ⟨S4x64x4x64, .f32⟩
  | 13 => ⟨S4x64x4x64, .f32⟩
  | 14 => ⟨S256x256, .f32⟩
  | 15 => ⟨S256x256, .bf16⟩
  | 16 => ⟨S1x31x384, .f32⟩
  | 17 => ⟨S31x384, .f32⟩
  | 18 => ⟨S31x8x384, .f32⟩
  | 19 => ⟨S248x384, .f32⟩
  | 20 => ⟨S1x1024, .f32⟩
  | 21 => ⟨S1024, .f32⟩
  | 22 => ⟨S1x1024, .f32⟩
  | 23 => ⟨S2x1024x1408, .bf16⟩
  | 24 => ⟨S1x384, .f32⟩
  | 25 => ⟨S384, .f32⟩
  | 26 => ⟨S1x384, .f32⟩
  | 27 => ⟨S1x384x384, .f32⟩
  | 28 => ⟨S384x384, .f32⟩
  | 29 => ⟨S384x384, .bf16⟩
  | 30 => ⟨S1x256, .f32⟩
  | 31 => ⟨S256, .f32⟩
  | 32 => ⟨S1x256, .f32⟩
  | 33 => ⟨S1x384, .f32⟩
  | 34 => ⟨S384, .f32⟩
  | 35 => ⟨S1x384, .f32⟩
  | 36 => ⟨S1x384, .f32⟩
  | 37 => ⟨S384, .f32⟩
  | 38 => ⟨S1x384, .f32⟩
  | 39 => ⟨S1x384, .f32⟩
  | 40 => ⟨S384, .f32⟩
  | 41 => ⟨S1x384, .f32⟩
  | 42 => ⟨S2x1024x1024, .bf16⟩
  | 43 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S1x1024, .f32⟩
  | .local _ .vmem, ⟨5, _⟩ => ⟨S256x256, .bf16⟩
  | .local _ .vmem, ⟨6, _⟩ => ⟨S256x256, .bf16⟩
  | .local _ .vmem, ⟨7, _⟩ => ⟨S1x1024x1408, .bf16⟩
  | .local _ .vmem, ⟨8, _⟩ => ⟨S3x128x1024, .bf16⟩
  | .local _ .vmem, ⟨9, _⟩ => ⟨S16x1536, .f32⟩
  | .local _ .vmem, ⟨10, _⟩ => ⟨S3x512x128, .bf16⟩
  | .local _ .vmem, ⟨11, _⟩ => ⟨S3x512x128, .bf16⟩
  | .local _ .vmem, ⟨12, _⟩ => ⟨S1x384, .f32⟩
  | .local _ .vmem, ⟨13, _⟩ => ⟨S384x384, .bf16⟩
  | .local _ .vmem, ⟨14, _⟩ => ⟨S256x256, .bf16⟩
  | .local _ .vmem, ⟨15, _⟩ => ⟨S1x256, .f32⟩
  | .local _ .vmem, ⟨16, _⟩ => ⟨S248x384, .f32⟩
  | .local _ .vmem, ⟨17, _⟩ => ⟨S1x384, .f32⟩
  | .local _ .vmem, ⟨18, _⟩ => ⟨S1x384, .f32⟩
  | .local _ .vmem, ⟨19, _⟩ => ⟨S1x384, .f32⟩
  | .local _ .vmem, ⟨20, _⟩ => ⟨S1x1024x1024, .bf16⟩
  | .local _ .vmem, ⟨21, _⟩ => ⟨S8x64x1024, .f32⟩
  | .local _ .vmem, ⟨22, _⟩ => ⟨S8x64x1024, .f32⟩
  | .local _ .vmem, ⟨23, _⟩ => ⟨S512x1408, .f32⟩
  | .local _ .vmem, ⟨24, _⟩ => ⟨S512x3072, .f32⟩
  | .local _ .vmem, ⟨25, _⟩ => ⟨S512x1408, .f32⟩
  | .local _ .vmem, ⟨26, _⟩ => ⟨S512x3072, .f32⟩
  | .local _ .vmem, ⟨27, _⟩ => ⟨S8x3072, .f32⟩
  | .local _ .vmem, ⟨28, _⟩ => ⟨S128x256, .f32⟩
  | .local _ .vmem, ⟨29, _⟩ => ⟨S240x384, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_3 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c2_i32 : BitVec 32 := 2#32
  let c0_i32_9 : BitVec 32 := 0#32
  let v18 : BitVec 1 := Scalar.cmpi .eq c2_i32 c0_i32_9
  let c1_i32_10 : BitVec 32 := 1#32
  let v19 : BitVec 32 := Scalar.select v18 c1_i32_10 c2_i32
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 32 := Scalar.extui v28
  let c0_i32_15 : BitVec 32 := 0#32
  let v30 : BitVec 1 := Scalar.cmpi .ne v29 c0_i32_15
  v30

def k0_cond4 (i : grid0.Coords) : BitVec 1 :=
  let arg0 : BitVec 32 := BitVec.ofNat 32 (i 0).val
  let c2_i32_16 : BitVec 32 := 2#32
  let c0_i32_17 : BitVec 32 := 0#32
  let v31 : BitVec 1 := Scalar.cmpi .eq c2_i32_16 c0_i32_17
  let c1_i32_18 : BitVec 32 := 1#32
  let v32 : BitVec 32 := Scalar.select v31 c1_i32_18 c2_i32_16
  let v33 : BitVec 32 := Scalar.remsi arg0 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c1_i32_22 : BitVec 32 := 1#32
  let v41 : BitVec 1 := Scalar.cmpi .eq v40 c1_i32_22
  let v42 : BitVec 32 := Scalar.extui v41
  let c0_i32_23 : BitVec 32 := 0#32
  let v43 : BitVec 1 := Scalar.cmpi .ne v42 c0_i32_23
  v43

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let c0_i32_7 : BitVec 32 := 0#32
  let v19 : BitVec 1 := Scalar.cmpi .eq c32_i32_6 c0_i32_7
  let c1_i32_8 : BitVec 32 := 1#32
  let v20 : BitVec 32 := Scalar.select v19 c1_i32_8 c32_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let c0_i32_7 : BitVec 32 := 0#32
  let v19 : BitVec 1 := Scalar.cmpi .eq c32_i32_6 c0_i32_7
  let c1_i32_8 : BitVec 32 := 1#32
  let v20 : BitVec 32 := Scalar.select v19 c1_i32_8 c32_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S248x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel2.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 15
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S_, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x1024 : Shape := ⟨2, ![2, 1024]⟩
abbrev S2x1024x1024 : Shape := ⟨3, ![2, 1024, 1024]⟩
abbrev S2x16x1024x256 : Shape := ⟨4, ![2, 16, 1024, 256]⟩
abbrev S2x16x256x1024 : Shape := ⟨4, ![2, 16, 256, 1024]⟩
abbrev S1x1024 : Shape := ⟨2, ![1, 1024]⟩
abbrev S1024 : Shape := ⟨1, ![1024]⟩
abbrev S1x1024x1024 : Shape := ⟨3, ![1, 1024, 1024]⟩
abbrev S1x1x1024x256 : Shape := ⟨4, ![1, 1, 1024, 256]⟩
abbrev S1x1x256x1024 : Shape := ⟨4, ![1, 1, 256, 1024]⟩
abbrev S1024x1024 : Shape := ⟨2, ![1024, 1024]⟩
abbrev S1024x1 : Shape := ⟨2, ![1024, 1]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x1024, .f32⟩
  | .hbm, ⟨3, _⟩ => ⟨S2x16x1024x256, .f32⟩
  | .hbm, ⟨4, _⟩ => ⟨S2x16x256x1024, .f32⟩
  | .hbm, ⟨5, _⟩ => ⟨S2x1024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x1024, .bf16⟩
  | .hbm, ⟨10, _⟩ => ⟨S2x16x1024x256, .bf16⟩
  | .hbm, ⟨11, _⟩ => ⟨S2x16x256x1024, .bf16⟩
  | .hbm, ⟨12, _⟩ => ⟨S2x1024x1024, .bf16⟩
  | .hbm, ⟨13, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1x1024x256, .bf16⟩
  | .local _ .vmem, ⟨5, _⟩ => ⟨S1x1x1024x256, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1024x1024, .bf16⟩
  | .local _ .vmem, ⟨9, _⟩ => ⟨S1x1024x1024, .f32⟩
  | .local _ .vmem, ⟨10, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16x2048x1024 : Shape := ⟨3, ![16, 2048, 1024]⟩
abbrev S2x1024 : Shape := ⟨2, ![2, 1024]⟩
abbrev S2x1024x1024 : Shape := ⟨3, ![2, 1024, 1024]⟩
abbrev S2x16x1024x256 : Shape := ⟨4, ![2, 16, 1024, 256]⟩
abbrev S2x16x256x1024 : Shape := ⟨4, ![2, 16, 256, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S16x2048x4x256 : Shape := ⟨4, ![16, 2048, 4, 256]⟩
abbrev S1x16x1024x256 : Shape := ⟨4, ![1, 16, 1024, 256]⟩
abbrev S16x1024x256 : Shape := ⟨3, ![16, 1024, 256]⟩
abbrev S16x256x1024 : Shape := ⟨3, ![16, 256, 1024]⟩
abbrev S16x256x4x256 : Shape := ⟨4, ![16, 256, 4, 256]⟩
abbrev S1x16x256x1024 : Shape := ⟨4, ![1, 16, 256, 1024]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x1024, .f32⟩
  | .hbm, ⟨3, _⟩ => ⟨S2x16x1024x256, .f32⟩
  | .hbm, ⟨4, _⟩ => ⟨S2x16x256x1024, .f32⟩
  | .hbm, ⟨5, _⟩ => ⟨S2x1024x1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S1x1024x1024, .f32⟩
  | .hbm, ⟨25, _⟩ => ⟨S1024x1024, .f32⟩
  | .hbm, ⟨26, _⟩ => ⟨S16x2048x1024, .f32⟩
  | .hbm, ⟨27, _⟩ => ⟨S16x2048x4x256, .f32⟩
  | .hbm, ⟨28, _⟩ => ⟨S1x16x1024x256, .f32⟩
  | .hbm, ⟨29, _⟩ => ⟨S16x1024x256, .f32⟩
  | .hbm, ⟨30, _⟩ => ⟨S16x256x1024, .f32⟩
  | .hbm, ⟨31, _⟩ => ⟨S16x256x4x256, .f32⟩
  | .hbm, ⟨32, _⟩ => ⟨S1x16x256x1024, .f32⟩
  | .hbm, ⟨33, _⟩ => ⟨S16x256x1024, .f32⟩
  | .hbm, ⟨34, _⟩ => ⟨S16x256x4x256, .f32⟩
  | .hbm, ⟨35, _⟩ => ⟨S16x4x2048x256, .f32⟩
  | .hbm, ⟨36, _⟩ => ⟨S_, .f32⟩
  | .hbm, ⟨37, _⟩ => ⟨S16x4x2048x256, .f32⟩
  | .hbm, ⟨38, _⟩ => ⟨S16x4x2048x256, .f32⟩
  | .hbm, ⟨39, _⟩ => ⟨S_, .f32⟩
  | .hbm, ⟨40, _⟩ => ⟨S16x4x2048, .f32⟩
  | .hbm, ⟨41, _⟩ => ⟨S_, .f32⟩
  | .hbm, ⟨42, _⟩ => ⟨S16x4x2048, .f32⟩
  | .hbm, ⟨43, _⟩ => ⟨S16x4x2048, .f32⟩
  | .hbm, ⟨44, _⟩ => ⟨S16x4x2048x1, .f32⟩
  | .hbm, ⟨45, _⟩ => ⟨S16x4x2048x256, .f32⟩
  | .hbm, ⟨46, _⟩ => ⟨S16x4x2048x256, .f32⟩
  | .hbm, ⟨47, _⟩ => ⟨S16x4x2048x256, .f32⟩
  | .hbm, ⟨48, _⟩ => ⟨S_, .f32⟩
  | .hbm, ⟨49, _⟩ => ⟨S16x4x2048, .f32⟩
  | .hbm, ⟨50, _⟩ => ⟨S16x4x2048x1, .f32⟩
  | .hbm, ⟨51, _⟩ => ⟨S16x4x2048x256, .f32⟩
  | .hbm, ⟨52, _⟩ => ⟨S16x4x2048x256, .f32⟩
  | .hbm, ⟨53, _⟩ => ⟨S16x4x256x2048, .f32⟩
  | .hbm, ⟨54, _⟩ => ⟨S16x2048x4x256, .f32⟩
  | .hbm, ⟨55, _⟩ => ⟨S16x2048x1024, .f32⟩
  | .hbm, ⟨56, _⟩ => ⟨S1x1024x1024, .f32⟩
  | .hbm, ⟨57, _⟩ => ⟨S1024x1024, .f32⟩
  | .hbm, ⟨58, _⟩ => ⟨S16x2048x1024, .f32⟩
  | .hbm, ⟨59, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel4.lean ====
abbrev S16x256x1024 : Shape := ⟨3, ![16, 256, 1024]⟩
abbrev S2x1024 : Shape := ⟨2, ![2, 1024]⟩
abbrev S2x1024x1024 : Shape := ⟨3, ![2, 1024, 1024]⟩
abbrev S2x1x1024 : Shape := ⟨3, ![2, 1, 1024]⟩
abbrev S2x16x1024x256 : Shape := ⟨4, ![2, 16, 1024, 256]⟩
abbrev S2x16x256x1024 : Shape := ⟨4, ![2, 16, 256, 1024]⟩
abbrev S2x256x1024 : Shape := ⟨3, ![2, 256, 1024]⟩
abbrev S1x1x1024 : Shape := ⟨3, ![1, 1, 1024]⟩
abbrev S1x1024x1024 : Shape := ⟨3, ![1, 1024, 1024]⟩
abbrev S1x2x1024x256 : Shape := ⟨4, ![1, 2, 1024, 256]⟩
abbrev S1x2x256x1024 : Shape := ⟨4, ![1, 2, 256, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S1024x256 : Shape := ⟨2, ![1024, 256]⟩
abbrev S1x1x1024x256 : Shape := ⟨4, ![1, 1, 1024, 256]⟩
abbrev S1x1x256x1024 : Shape := ⟨4, ![1, 1, 256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S2x1x1024, .f32⟩
  | .hbm, ⟨5, _⟩ => ⟨S2x1024x1024, .bf16⟩
  | .hbm, ⟨6, _⟩ => ⟨S2x1024x1024, .bf16⟩
  | .hbm, ⟨7, _⟩ => ⟨S2x16x1024x256, .bf16⟩
  | .hbm, ⟨8, _⟩ => ⟨S2x16x256x1024, .bf16⟩
  | .local _ .vmem, ⟨0, _⟩ => ⟨S2x256x1024, .f32⟩
  | .local _ .vmem, ⟨1, _⟩ => ⟨S2x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x2x1024x256, .bf16⟩
  | .local _ .vmem, ⟨9, _⟩ => ⟨S1x2x1024x256, .bf16⟩
  | .local _ .vmem, ⟨10, _⟩ => ⟨S1x2x256x1024, .bf16⟩
  | .local _ .vmem, ⟨11, _⟩ => ⟨S1x2x256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x256x1024 : Shape := ⟨3, ![16, 256, 1024]⟩
abbrev S2x1024 : Shape := ⟨2, ![2, 1024]⟩
abbrev S2x1024x1024 : Shape := ⟨3, ![2, 1024, 1024]⟩
abbrev S1x16x256x1024 : Shape := ⟨4, ![1, 16, 256, 1024]⟩
abbrev S2x1x1x1024 : Shape := ⟨4, ![2, 1, 1, 1024]⟩
abbrev S_ : Shape := ⟨0, ![]⟩
abbrev S1x16x256 : Shape := ⟨3, ![1, 16, 256]⟩
abbrev S1x16x256x1 : Shape := ⟨4, ![1, 16, 256, 1]⟩
abbrev S2x16x256x1024 : Shape := ⟨4, ![2, 16, 256, 1024]⟩
abbrev S2x16x1024x256 : Shape := ⟨4, ![2, 16, 1024, 256]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024, .f32⟩
  | .hbm, ⟨2, _⟩ => ⟨S2x1024x1024, .f32⟩
  | .hbm, ⟨3, _⟩ => ⟨S2x1024x1024, .f32⟩
  | .hbm, ⟨4, _⟩ => ⟨S1x16x256x1024, .f32⟩
  | .hbm, ⟨5, _⟩ => ⟨S2x1x1x1024, .f32⟩
  | .hbm, ⟨6, _⟩ => ⟨S1x16x256x1024, .f32⟩
  | .hbm, ⟨7, _⟩ => ⟨S_, .f32⟩
  | .hbm, ⟨8, _⟩ => ⟨S1x16x256, .f32⟩
  | .hbm, ⟨9, _⟩ => ⟨S1x16x256x1, .f32⟩
  | .hbm, ⟨10, _⟩ => ⟨S_, .f32⟩
  | .hbm, ⟨11, _⟩ => ⟨S1x16x256x1, .f32⟩
  | .hbm, ⟨12, _⟩ => ⟨S1x16x256x1, .f32⟩
  | .hbm, ⟨13, _⟩ => ⟨S_, .f32⟩
  | .hbm, ⟨14, _⟩ => ⟨S1x16x256x1, .f32⟩
  | .hbm, ⟨15, _⟩ => ⟨S1x16x256x1, .f32⟩
  | .hbm, ⟨16, _⟩ => ⟨S1x16x256x1, .f32⟩
  | .hbm, ⟨17, _⟩ => ⟨S1x16x256x1024, .f32⟩
  | .hbm, ⟨18, _⟩ => ⟨S1x16x256x1024, .f32⟩
  | .hbm, ⟨19, _⟩ => ⟨S2x16x256x1024, .f32⟩
  | .hbm, ⟨20, _⟩ => ⟨S2x16x256x1024, .f32⟩
  | .hbm, ⟨21, _⟩ => ⟨S2x16x256x1024, .f32⟩
  | .hbm, ⟨22, _⟩ => ⟨S2x16x256x1024, .f32⟩
  | .hbm, ⟨23, _⟩ => ⟨S2x16x256x1024, .f32⟩
  | .hbm, ⟨24, _⟩ => ⟨S2x16x1024x256, .f32⟩
  | .hbm, ⟨25, _⟩ => ⟨S2x16x1024x256, .bf16⟩
  | .hbm, ⟨26, _⟩ => ⟨S2x16x256x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1408 : Shape := ⟨3, ![2, 1024, 1408]⟩
abbrev S2x1024x1024 : Shape := ⟨3, ![2, 1024, 1024]⟩
abbrev S32768x1024 : Shape := ⟨2, ![32768, 1024]⟩
abbrev S1x1024 : Shape := ⟨2, ![1, 1024]⟩
abbrev S1024 : Shape := ⟨1, ![1024]⟩
abbrev S2048x1408 : Shape := ⟨2, ![2048, 1408]⟩
abbrev S2048x1024 : Shape := ⟨2, ![2048, 1024]⟩
abbrev S2048x2816 : Shape := ⟨2, ![2048, 2816]⟩
abbrev S5632x1024 : Shape := ⟨2, ![5632, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S64x1408 : Shape := ⟨2, ![64, 1408]⟩
abbrev S64x1024 : Shape := ⟨2, ![64, 1024]⟩
abbrev S64x2816 : Shape := ⟨2, ![64, 2816]⟩
abbrev S176x1024 : Shape := ⟨2, ![176, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 40
  | .vmem => 44
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x1408, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S32768x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2x1024x2816, .bf16⟩
  | .hbm, ⟨19, _⟩ => ⟨S2x1024x2816, .bf16⟩
  | .hbm, ⟨20, _⟩ => ⟨S2x2816x1024, .bf16⟩
  | .hbm, ⟨21, _⟩ => ⟨S2048x1408, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S5632x1024, .f32⟩
  | .hbm, ⟨30, _⟩ => ⟨S32768x1024, .f32⟩
  | .hbm, ⟨31, _⟩ => ⟨S2048x1408, .bf16⟩
  | .hbm, ⟨32, _⟩ => ⟨S2048x1024, .bf16⟩
  | .hbm, ⟨33, _⟩ => ⟨S2048x1024, .bf16⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S2048x2816, .bf16⟩
  | .hbm, ⟨38, _⟩ => ⟨S2048x2816, .bf16⟩
  | .hbm, ⟨39, _⟩ => ⟨S5632x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S64x1408, .f32⟩
  | .local _ .vmem, ⟨7, _⟩ => ⟨S64x1408, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x2816, .f32⟩
  | .local _ .vmem, ⟨19, _⟩ => ⟨S64x2816, .f32⟩
  | .local _ .vmem, ⟨20, _⟩ => ⟨S64x2816, .f32⟩
  | .local _ .vmem, ⟨21, _⟩ => ⟨S64x2816, .f32⟩
  | .local _ .vmem, ⟨22, _⟩ => ⟨S176x1024, .f32⟩
  | .local _ .vmem, ⟨23, _⟩ => ⟨S176x1024, .f32⟩
  | .local _ .vmem, ⟨24, _⟩ => ⟨S1024x1024, .f32⟩
  | .local _ .vmem, ⟨25, _⟩ => ⟨S1024x1024, .f32⟩
  | .local _ .vmem, ⟨26, _⟩ => ⟨S64x1408, .bf16⟩
  | .local _ .vmem, ⟨27, _⟩ => ⟨S64x1408, .bf16⟩
  | .local _ .vmem, ⟨28, _⟩ => ⟨S64x1024, .bf16⟩
  | .local _ .vmem, ⟨29, _⟩ => ⟨S64x1024, .bf16⟩
  | .local _ .vmem, ⟨30, _⟩ => ⟨S64x1024, .bf16⟩
  | .local _ .vmem, ⟨31, _⟩ => ⟨S64x1024, .bf16⟩
  | .local _ .vmem, ⟨32, _⟩ => ⟨S64x1024, .bf16⟩
  | .local _ .vmem, ⟨33, _⟩ => ⟨S64x1024, .bf16⟩
  | .local _ .vmem, ⟨34, _⟩ => ⟨S64x1024, .bf16⟩
  | .local _ .vmem, ⟨35, _⟩ => ⟨S64x1024, .bf16⟩
  | .local _ .vmem, ⟨36, _⟩ => ⟨S64x1024, .bf16⟩
  | .local _ .vmem, ⟨37, _⟩ => ⟨S64x1024, .bf16⟩
  | .local _ .vmem, ⟨38, _⟩ => ⟨S64x2816, .bf16⟩
  | .local _ .vmem, ⟨39, _⟩ => ⟨S64x2816, .bf16⟩
  | .local _ .vmem, ⟨40, _⟩ => ⟨S64x2816, .bf16⟩
  | .local _ .vmem, ⟨41, _⟩ => ⟨S64x2816, .bf16⟩
  | .local _ .vmem, ⟨42, _⟩ => ⟨S176x1024, .bf16⟩
  | .local _ .vmem, ⟨43, _⟩ => ⟨S176x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev main_v16_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x2816 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1408 : Shape := ⟨3, ![2, 1024, 1408]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩
abbrev S2048x1408 : Shape := ⟨2, ![2048, 1408]⟩
abbrev S2048x1024 : Shape := ⟨2, ![2048, 1024]⟩
abbrev S2048x2816 : Shape := ⟨2, ![2048, 2816]⟩
abbrev S5632x1024 : Shape := ⟨2, ![5632, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x1408, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S1x1024, .f32⟩
  | .hbm, ⟨15, _⟩ => ⟨S1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S1x1024x2816, .f32⟩
  | .hbm, ⟨33, _⟩ => ⟨S1024x2816, .f32⟩
  | .hbm, ⟨34, _⟩ => ⟨S1x1024x2816, .f32⟩
  | .hbm, ⟨35, _⟩ => ⟨S1024x2816, .f32⟩
  | .hbm, ⟨36, _⟩ => ⟨S1x2816x1024, .f32⟩
  | .hbm, ⟨37, _⟩ => ⟨S2816x1024, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S_, .f32⟩
  | .hbm, ⟨42, _⟩ => ⟨S16x2048x2816, .f32⟩
  | .hbm, ⟨43, _⟩ => ⟨S16x2048x2816, .f32⟩
  | .hbm, ⟨44, _⟩ => ⟨S_, .f32⟩
  | .hbm, ⟨45, _⟩ => ⟨S16x2048x2816, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | .hbm, ⟨56, _⟩ => ⟨S2048x1408, .f32⟩
  | .hbm, ⟨57, _⟩ => ⟨S2048x1408, .bf16⟩
  | .hbm, ⟨58, _⟩ => ⟨S2048x1024, .f32⟩
  | .hbm, ⟨59, _⟩ => ⟨S2048x1024, .bf16⟩
  | .hbm, ⟨60, _⟩ => ⟨S2048x1024, .f32⟩
  | .hbm, ⟨61, _⟩ => ⟨S2048x1024, .bf16⟩
  | .hbm, ⟨62, _⟩ => ⟨S2048x1024, .f32⟩
  | .hbm, ⟨63, _⟩ => ⟨S2048x1024, .bf16⟩
  | .hbm, ⟨64, _⟩ => ⟨S2048x1024, .f32⟩
  | .hbm, ⟨65, _⟩ => ⟨S2048x1024, .bf16⟩
  | .hbm, ⟨66, _⟩ => ⟨S2048x1024, .f32⟩
  | .hbm, ⟨67, _⟩ => ⟨S2048x1024, .bf16⟩
  | .hbm, ⟨68, _⟩ => ⟨S2048x2816, .f32⟩
  | .hbm, ⟨69, _⟩ => ⟨S2048x2816, .bf16⟩
  | .hbm, ⟨70, _⟩ => ⟨S2048x2816, .f32⟩
  | .hbm, ⟨71, _⟩ => ⟨S2048x2816, .bf16⟩
  | .hbm, ⟨72, _⟩ => ⟨S5632x1024, .f32⟩
  | .hbm, ⟨73, _⟩ => ⟨S5632x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel6.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Sums.lean ====
module
public import Idealize.ShloMosaic.Lib.Pipeline.ValueKit
@[expose] public section
set_option maxRecDepth 16384
noncomputable section
open Idealize.ShloMosaic Idealize.ShloMosaic.TcCoe Idealize.SL.Sem
namespace Cert.Layer

/-- The root-mean-square norm of a row `v` of 1024 entries, with gains `g`, at entry `k`. -/
def rms (v g : Fin 1024 → EReal) (k : Fin 1024) : EReal :=
  v k * Ideal.rsqrt (Ideal.div (∑ j, v j * v j) (Ideal.ofBits .f32 1149239296#32) + Ideal.ofBits .f32 897988541#32) * g k

theorem rms_eq (v g : Fin 1024 → EReal) (k : Fin 1024) : rms v g k
    = v k * Ideal.rsqrt (Ideal.div (∑ j, v j * v j) (Ideal.ofBits .f32 1149239296#32) + Ideal.ofBits .f32 897988541#32) * g k := rfl

/-- One hidden unit of the feed-forward network: `silu (h · a) * (h · b)`. -/
def gate (h a b : Fin 1024 → EReal) : EReal :=
  (∑ k, h k * a k) * Ideal.logistic (∑ k, h k * a k) * ∑ k, h k * b k

/-- One output of the feed-forward network, summed over its 2816 hidden units. -/
def ffn (h : Fin 1024 → EReal) (wg wu : Fin 1024 → Fin 2816 → EReal) (wd : Fin 2816 → EReal) : EReal :=
  ∑ f, gate h (fun k => wg k f) (fun k => wu k f) * wd f

theorem rms_congr {v v' g g' : Fin 1024 → EReal} {k k' : Fin 1024} (hv : ∀ j, v j = v' j) (hg : ∀ j, g j = g' j) (hk : k = k') :
    rms v g k = rms v' g' k' := by
  rw [funext hv, funext hg, hk]

theorem ffn_congr {h h' : Fin 1024 → EReal} {wg wg' wu wu' : Fin 1024 → Fin 2816 → EReal} {wd wd' : Fin 2816 → EReal}
    (hh : ∀ k, h k = h' k) (hg : ∀ k f, wg k f = wg' k f) (hu : ∀ k f, wu k f = wu' k f) (hd : ∀ f, wd f = wd' f) :
    ffn h wg wu wd = ffn h' wg' wu' wd' := by
  rw [funext hh, funext fun k => funext (hg k), funext fun k => funext (hu k), funext hd]

/-- A sum over 2816 terms is the sum of its eleven runs of 256 terms. -/
theorem sum_runs (F : Fin 2816 → EReal) : ∑ l, F l
    = ∑ k : Fin 256, F ⟨k, by omega⟩ + ∑ k : Fin 256, F ⟨256 + k, by omega⟩ + ∑ k : Fin 256, F ⟨512 + k, by omega⟩
      + ∑ k : Fin 256, F ⟨768 + k, by omega⟩ + ∑ k : Fin 256, F ⟨1024 + k, by omega⟩ + ∑ k : Fin 256, F ⟨1280 + k, by omega⟩
      + ∑ k : Fin 256, F ⟨1536 + k, by omega⟩ + ∑ k : Fin 256, F ⟨1792 + k, by omega⟩ + ∑ k : Fin 256, F ⟨2048 + k, by omega⟩
      + ∑ k : Fin 256, F ⟨2304 + k, by omega⟩ + ∑ k : Fin 256, F ⟨2560 + k, by omega⟩ := by
  have h (g : Fin 11 → EReal) : ∑ s, g s = g 0 + g 1 + g 2 + g 3 + g 4 + g 5 + g 6 + g 7 + g 8 + g 9 + g 10 := by
    simp only [Fin.sum_univ_castSucc, Fin.sum_univ_zero, zero_add]
    rfl
  rw [← Fin.sum_mul_add_fin 11 256 F, h]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_) ?_ <;>
    exact Finset.sum_congr rfl fun k _ => congrArg F (Fin.ext (by simp))

end Cert.Layer
end
-- ==== Proof.Ffn2.lean ====
module
public import proofs.«01_k».proof.Proof.Gen.Kernel2Ideal.Value
public import proofs.«01_k».proof.Proof.Gen.Reference2Ideal.Read
public import proofs.«01_k».proof.Proof.Sums
@[expose] public section
set_option maxRecDepth 16384
noncomputable section
open Idealize.ShloMosaic Idealize.ShloMosaic.TcCoe Idealize.SL.Sem
open Idealize.ShloMosaic.Pipeline (Dat)
namespace Cert.Ffn2
open Cert.Layer Cert.Kernel2Ideal Cert.Kernel2Ideal.Gen
variable (m : (ℓ : Loc nD τ sig) → Buf (Elt Ideal) ℓ)

/-- The norm before the network. -/
theorem norm_at (x0 : Vec Ideal S1024x1024 .f32) (x1 : Vec Ideal S1x1024 .f32) (r k : Fin 1024) :
    k0_pay3 (F := Ideal) x0 x1 (ix2 r k) = rms (fun j => x0 (ix2 r j)) (fun j => x1 (ix2 0 j)) k := by
  pointwise [k0_pay3, k0_pay2, rms]

set_option maxHeartbeats 1600000 in
/-- What the body leaves of one block. -/
theorem block_at (x0 : Vec Ideal S1024x1024 .f32) (x1 : Vec Ideal S1x1024 .f32) (x2 x3 : Vec Ideal S1x1024x2816 .bf16)
    (x4 : Vec Ideal S1x2816x1024 .bf16) (x5 : Vec Ideal S1x1024 .f32) (r c : Fin 1024) :
    out0_6 (F := Ideal) x0 x1 x2 x3 x4 x5 (ix2 r c)
    = rms (fun j => x0 (ix2 r j) + Ideal.ofBits .f32 1056964608#32 *
        ffn (rms (fun j => x0 (ix2 r j)) (fun j => x1 (ix2 0 j))) (fun k f => x2 (ix3 0 k f)) (fun k f => x3 (ix3 0 k f))
          (fun f => x4 (ix3 0 f j))) (fun j => x5 (ix2 0 j)) c := by
  refine Eq.trans ?_ (rms_eq _ _ _).symm
  simp only [ffn, sum_runs, gate, ← norm_at]
  unfold_out out0_6
  frame_out
  pointwise [k0_pay1, k0_pay2, k0_pay4, k0_pay5, k0_pay6, k0_pay7, k0_pay8, k0_pay9, k0_pay10, k0_pay11, k0_pay12, k0_pay13, k0_pay14]

open Cert.Reference2Ideal.Read in
/-- The reference at an entry. -/
theorem ref_at (X G Wg Wu Wd Gf) (R : Fin 32768) (c : Fin 1024) :
    val_main_v42 (F := Ideal) X G Wg Wu Wd Gf (ix2 R c)
    = rms (fun j => X (ix3 ⟨R / 2048, by omega⟩ ⟨R % 2048, by omega⟩ j) + Ideal.ofBits .f32 1056964608#32 *
        ffn (rms (fun j => X (ix3 ⟨R / 2048, by omega⟩ ⟨R % 2048, by omega⟩ j)) (fun j => G (ix2 1 j))) (fun k f => Wg (ix3 1 k f)) (fun k f => Wu (ix3 1 k f))
          (fun f => Wd (ix3 1 f j))) (fun j => Gf (ix1 j)) c := by
  have h14 (b : Fin 16) (s : Fin 2048) (k : Fin 1024) : val_main_v14 (F := Ideal) X G (ix3 b s k)
      = rms (fun j => X (ix3 b s j)) (fun j => G (ix2 1 j)) k := by
    pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]
  have h28 (b : Fin 16) (s : Fin 2048) (j : Fin 1024) : val_main_v28 (F := Ideal) X G Wg Wu Wd (ix3 b s j)
      = X (ix3 b s j) + Ideal.ofBits .f32 1056964608#32 *
        ffn (rms (fun j => X (ix3 b s j)) (fun j => G (ix2 1 j))) (fun k f => Wg (ix3 1 k f)) (fun k f => Wu (ix3 1 k f))
          (fun f => Wd (ix3 1 f j)) := by
    simp only [ffn, gate, ← h14]
    pointwise [val_main_v28, val_main_v27, val_main_v26, val_main_v25, val_main_v24, val_main_v23, val_main_v22, val_main_v21, val_main_v20, val_main_v19, val_main_v18, val_main_v17, val_main_v16, val_main_v15, val_main_cst_2, val_main_call0_v5, val_main_call0_v4, val_main_call0_v3, val_main_call0_v2, val_main_call0_v1, val_main_call0_v0, val_main_call0_cst, val_main_call0_cst_0]
    rfl
  simp only [← h28]
  pointwise [val_main_v42, val_main_v41, val_main_v40, val_main_v39, val_main_v38, val_main_v37, val_main_v36, val_main_v35, val_main_v34, val_main_v33, val_main_v32, val_main_v31, val_main_v30, val_main_v29, val_main_cst_3, val_main_cst_4, val_main_cst_5, rms]

theorem idx : ∀ t : Fin cfg0.N, win0_0.index t = ![t.val, 0] ∧ win0_1.index t = ![0, 0] ∧ win0_2.index t = ![1, 0, 0]
    ∧ win0_3.index t = ![1, 0, 0] ∧ win0_4.index t = ![1, 0, 0] ∧ win0_5.index t = ![0, 0] ∧ win0_6.index t = ![t.val, 0] :=
  (by decide +kernel : ∀ t : Fin grid0.N, _)

/-- The reference's result over the kernel's argument arrays. -/
abbrev REF (c : Dev nD) : FVec Ideal S32768x1024 .f32 :=
  Cert.Reference2Ideal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- What a grid point leaves of its block is the reference's result at the block's place. -/
theorem point (c : Dev nD) (t : Fin cfg0.N) (y) :
    out0_6 (F := Ideal) (iblk m c 0 t) (iblk m c 1 t) (iblk m c 2 t) (iblk m c 3 t) (iblk m c 4 t) (iblk m c 5 t) y
    = REF m c (((cfg0.win 6).blk t).view.emb y) := by
  refine ((congrArg _ (eq_ix2 y)).trans (block_at _ _ _ _ _ _ (y 0) (y 1))).trans ?_
  have e0 : ((((cfg0.win 6).blk t).view.emb y) 0 : ℕ) = t.val * 1024 + (y 0).val := by
    blk_simp [idx t]
  have e1 : ((((cfg0.win 6).blk t).view.emb y) 1 : ℕ) = (y 1).val := by
    blk_simp [idx t]
  generalize ((cfg0.win 6).blk t).view.emb y = z at e0 e1 ⊢
  refine Eq.trans ?_ (Eq.symm (Eq.trans (congrArg (REF m c) (eq_ix2 z)) (ref_at _ _ _ _ _ _ (z 0) (z 1))))
  have hx (j : Fin 1024) : iblk m c 0 t (ix2 (y 0) j) = m ((c : Thread nD τ).loc main_arg0)
      (ix3 ⟨(z 0).val / 2048, by have := (z 0).isLt; change _ < 32768 at this; omega⟩ ⟨(z 0).val % 2048, by omega⟩ j) := by
    blk_point [iblk, V, idx t]
  refine rms_congr (fun j => congrArg₂ (· + ·) (hx j) (congrArg _ (ffn_congr (fun k => rms_congr hx (fun l => ?_) rfl)
    (fun k f => ?_) (fun k f => ?_) fun f => ?_))) (fun l => ?_) ?_
  · blk_point [iblk, V, idx t]
  · blk_point [iblk, V, idx t]
  · blk_point [iblk, V, idx t]
  · blk_point [iblk, V, idx t]
  · blk_point [iblk, V, idx t]
  · exact Fin.ext e1.symm

theorem final (c : Dev nD) : (dats m 0 c).arrAt 6 (cfgs 0).N = REF m c := by
  refine (dats m 0 c).arrAt_eq_of_covers 6 _ (by decide +kernel) fun t _ y => ?_
  blk_simp
  rw [after0_6]
  exact point m c t y

end Cert.Ffn2
end
-- ==== Proof.Reals.lean ====
module
public import proofs.«01_k».proof.Proof.Sums
@[expose] public section
noncomputable section
open Idealize.ShloMosaic
namespace Cert.Layer

theorem coe_sum {n : ℕ} (g : Fin n → ℝ) : ((∑ k, g k : ℝ) : EReal) = ∑ k, (g k : EReal) := by
  induction n with
  | zero => simp
  | succ n ih => rw [Fin.sum_univ_castSucc, Fin.sum_univ_castSucc, EReal.coe_add, ih]

/-- `x` is a real number. -/
def IsR (x : EReal) : Prop := ∃ r : ℝ, x = (r : EReal)

theorem IsR.mul {x y : EReal} : IsR x → IsR y → IsR (x * y)
  | ⟨a, ha⟩, ⟨b, hb⟩ => ⟨a * b, by rw [ha, hb, EReal.coe_mul]⟩

theorem isR_sum {n : ℕ} {f : Fin n → EReal} (h : ∀ k, IsR (f k)) : IsR (∑ k, f k) := by
  choose g hg using h
  exact ⟨∑ k, g k, by rw [funext hg, coe_sum]⟩

theorem isR_of_abs {x : EReal} (h : max x (-x) < ⊤) : IsR x := by
  refine ⟨x.toReal, (EReal.coe_toReal ?_ ?_).symm⟩
  · rintro rfl; simp at h
  · rintro rfl; simp at h

/-- A nonnegative real factor goes into a sum of any extended reals. -/
theorem sum_mul_real {n : ℕ} (c : ℝ) (hc : 0 ≤ c) (f : Fin n → EReal) : (∑ k, f k) * (c : EReal) = ∑ k, f k * (c : EReal) := by
  induction n with
  | zero => simp
  | succ n ih =>
    rw [Fin.sum_univ_castSucc, Fin.sum_univ_castSucc, EReal.right_distrib_of_nonneg_of_ne_top (by exact_mod_cast hc) (EReal.coe_ne_top c), ih]

theorem ofBits_1024 : Ideal.ofBits .f32 1149239296#32 = ((1024 : ℝ) : EReal) := by
  simp [Ideal.ofBits, Ideal.ieee, ← EReal.coe_mul, -EReal.coe_mul]
  norm_num

theorem ofBits_eps : ∃ e : ℝ, 0 < e ∧ Ideal.ofBits .f32 897988541#32 = (e : EReal) :=
  ⟨8796093 * (1 / 8796093022208), by norm_num, by simp [Ideal.ofBits, Ideal.ieee]; norm_num⟩

theorem ofBits_sixteenth : Ideal.ofBits .f32 1031798784#32 = ((1 / 16 : ℝ) : EReal) := by
  simp [Ideal.ofBits, Ideal.ieee, -EReal.coe_mul]
  norm_num

theorem ofBits_bot : Ideal.ofBits .f32 4286578688#32 = ⊥ := by
  simp [Ideal.ofBits, Ideal.ieee]

theorem isR_rms {v g : Fin 1024 → EReal} (hv : ∀ j, IsR (v j)) (hg : ∀ j, IsR (g j)) (k : Fin 1024) : IsR (rms v g k) := by
  obtain ⟨e, he, hee⟩ := ofBits_eps
  choose a ha using hv
  have hs : ∑ j, v j * v j = ((∑ j, a j * a j : ℝ) : EReal) := by
    simp only [ha, ← EReal.coe_mul, coe_sum]
  have h0 : (0 : ℝ) ≤ ∑ j, a j * a j := Finset.sum_nonneg fun j _ => mul_self_nonneg _
  have hp : 0 < (∑ j, a j * a j) * (1024 : ℝ)⁻¹ + e := by positivity
  rw [rms_eq, hs, ofBits_1024, hee, Ideal.div, if_neg (by norm_num), ← EReal.coe_inv, ← EReal.coe_mul, ← EReal.coe_add]
  refine IsR.mul (IsR.mul ⟨a k, ha k⟩ ⟨(Real.sqrt ((∑ j, a j * a j) * (1024 : ℝ)⁻¹ + e))⁻¹, ?_⟩) (hg k)
  show (if _ then _ else _ : EReal) = _
  rw [if_neg hp.not_gt, if_neg hp.ne']

/-- The greatest of 256 scores. -/
def mx (s : Fin 256 → EReal) : EReal := Finset.univ.fold max (Ideal.ofBits .f32 4286578688#32) s

/-- The weight of score `j` before it is divided by the sum of the weights. -/
def wt (s : Fin 256 → EReal) (j : Fin 256) : EReal := Ideal.exp (s j - mx s)

/-- The weighted mean of `v`, divided once. -/
def att (s v : Fin 256 → EReal) : EReal := Ideal.div (∑ j, wt s j * v j) (∑ j, wt s j)

theorem att_congr {s s' v v' : Fin 256 → EReal} (hs : ∀ j, s j = s' j) (hv : ∀ j, v j = v' j) : att s v = att s' v' := by
  rw [funext hs, funext hv]

theorem isR_mx {s : Fin 256 → EReal} (h : ∀ j, IsR (s j)) : IsR (mx s) := by
  obtain ⟨j, _, hj⟩ := Finset.exists_mem_eq_sup (Finset.univ : Finset (Fin 256)) ⟨0, Finset.mem_univ _⟩ s
  refine (h j).imp fun r hr => ?_
  rw [← hr, ← hj, mx, ofBits_bot]
  rfl

/-- Dividing every weight by their sum gives the same mean, when the scores are real. -/
theorem att_eq {s : Fin 256 → EReal} (h : ∀ j, IsR (s j)) (v : Fin 256 → EReal) :
    att s v = ∑ j, v j * Ideal.div (wt s j) (∑ i, wt s i) := by
  obtain ⟨M, hM⟩ := isR_mx h
  choose a ha using h
  have hw (j : Fin 256) : wt s j = ((Real.exp (a j - M) : ℝ) : EReal) := by
    rw [wt, hM, ha, ← EReal.coe_sub]
    rfl
  have hl : ∑ i, wt s i = ((∑ i, Real.exp (a i - M) : ℝ) : EReal) := by
    rw [funext hw, coe_sum]
  have hp : 0 < ∑ i, Real.exp (a i - M) := Finset.sum_pos (fun i _ => Real.exp_pos _) ⟨0, Finset.mem_univ _⟩
  have hn : ((∑ i, Real.exp (a i - M) : ℝ) : EReal) ≠ 0 := by exact_mod_cast hp.ne'
  rw [att, hl, Ideal.div, if_neg hn, ← EReal.coe_inv, sum_mul_real _ (inv_nonneg.mpr hp.le)]
  refine Finset.sum_congr rfl fun j _ => ?_
  rw [Ideal.div, if_neg hn, ← EReal.coe_inv, mul_comm (wt s j), mul_assoc]

end Cert.Layer
end
-- ==== Proof.Xattn.lean ====
module
public import proofs.«01_k».proof.Proof.Gen.Kernel3Ideal.Value
public import proofs.«01_k».proof.Proof.Gen.Reference3Ideal.Read
public import proofs.«01_k».proof.Proof.Reals
@[expose] public section
set_option maxRecDepth 16384
noncomputable section
open Idealize.ShloMosaic Idealize.ShloMosaic.TcCoe Idealize.SL.Sem
open Idealize.ShloMosaic.Pipeline (Dat)
namespace Cert.Xattn
open Cert.Layer Cert.Kernel3Ideal Cert.Kernel3Ideal.Gen
variable (m : (ℓ : Loc nD τ sig) → Buf (Elt Ideal) ℓ)

/-- The scaled queries. -/
theorem q_at (x0 : Vec Ideal S1x1024x1024 .f32) (x1 : Vec Ideal S1x1024 .f32) (x2 : Vec Ideal S1x1024x1024 .bf16) (r e : Fin 1024) :
    k0_pay3 (F := Ideal) x0 x1 x2 (ix2 r e)
    = (∑ k, rms (fun j => x0 (ix3 0 r j)) (fun j => x1 (ix2 0 j)) k * x2 (ix3 0 k e)) * Ideal.ofBits .f32 1031798784#32 := by
  pointwise [k0_pay3, k0_pay2, rms]

theorem head0_at (x0 : Vec Ideal S1x1024x1024 .f32) (x1 : Vec Ideal S1x1024 .f32) (x2 : Vec Ideal S1x1024x1024 .bf16)
    (k v : Vec Ideal S1x1x256x256 .bf16) (r : Fin 1024) (d : Fin 256) :
    k0_pay7 (F := Ideal) (k0_pay5 x0 x1 x2 k) (k0_pay6 x0 x1 x2 k) v (ix2 r d)
    = att (fun j => ∑ e : Fin 256, k0_pay3 x0 x1 x2 (ix2 r ⟨0 + e, by omega⟩) * k (ix4 0 0 e j)) (fun j => v (ix4 0 0 j d)) := by
  generalize hq : k0_pay3 (F := Ideal) x0 x1 x2 = q
  simp only [Nat.zero_add]
  pointwise [k0_pay7, k0_pay6, k0_pay5, k0_pay4, hq, att, wt, mx]

theorem head1_at (q : Vec Ideal S1024x1024 .bf16)
    (k v : Vec Ideal S1x1x256x256 .bf16) (r : Fin 1024) (d : Fin 256) :
    k0_pay8 (F := Ideal) q k v (ix2 r d)
    = att (fun j => ∑ e : Fin 256, q (ix2 r ⟨256 + e, by omega⟩) * k (ix4 0 0 e j)) (fun j => v (ix4 0 0 j d)) := by
  pointwise [k0_pay8, att, wt, mx]

/-- The output from the heads' means; the last two heads are not yet computed where this begins. -/
theorem out_at (x : Vec Ideal S1024x1024 .f32) (q : Vec Ideal S1024x1024 .bf16) (p0 p1 : Vec Ideal S1024x256 .bf16)
    (k2 v2 k3 v3 : Vec Ideal S1x1x256x256 .bf16) (wo : Vec Ideal S1x1024x1024 .bf16) (r c : Fin 1024) :
    k0_pay1 (F := Ideal) x q p0 p1 (k0_pay10 q k2) (k0_pay11 q k2) v2 k3 v3 wo (ix3 0 r c)
    = x (ix2 r c) + ∑ e : Fin 1024, (if h : e.val < 256 then p0 (ix2 r ⟨e, h⟩) else if h : e.val - 256 < 256 then p1 (ix2 r ⟨e.val - 256, h⟩)
      else if h : e.val - 256 - 256 < 256 then
        att (fun j => ∑ e : Fin 256, q (ix2 r ⟨512 + e, by omega⟩) * k2 (ix4 0 0 e j)) (fun j => v2 (ix4 0 0 j ⟨e.val - 256 - 256, h⟩))
      else att (fun j => ∑ e : Fin 256, q (ix2 r ⟨768 + e, by omega⟩) * k3 (ix4 0 0 e j)) (fun j => v3 (ix4 0 0 j ⟨e.val - 256 - 256 - 256, by omega⟩)))
      * wo (ix3 0 e c) := by
  pointwise [k0_pay1, k0_pay10, k0_pay11, k0_pay9, att, wt, mx]

/-- The head of feature `e` begins at this feature. -/
def hd (e : Fin 1024) (d : Fin 256) : Fin 1024 := ⟨e / 256 * 256 + d, by omega⟩

theorem hd_eq (e : Fin 1024) (d : Fin 256) (o : ℕ) (h : o + d.val < 1024) (ho : e.val / 256 * 256 = o) : (⟨o + d, h⟩ : Fin 1024) = hd e d :=
  Fin.ext (by simp only [hd]; omega)

/-- One head's mean, from the queries and what the windows hold. -/
theorem head_eq (q : Vec Ideal S1024x1024 .bf16) (x3 : Vec Ideal S1x1x1024x256 .bf16) (x4 : Vec Ideal S1x1x256x1024 .bf16)
    (k v : Vec Ideal S1x1x256x256 .bf16) (r e : Fin 1024) (o : ℕ) (hl : o + 256 ≤ 1024) (ho : e.val / 256 * 256 = o) (d : Fin 256) (hd' : o + d.val = e.val)
    (hk : ∀ (a j : Fin 256), k (ix4 0 0 a j) = x3 (ix4 0 0 ⟨o + a, by omega⟩ j)) (hv : ∀ (j a : Fin 256), v (ix4 0 0 j a) = x4 (ix4 0 0 j ⟨o + a, by omega⟩)) :
    att (fun j => ∑ a : Fin 256, q (ix2 r ⟨o + a, by omega⟩) * k (ix4 0 0 a j)) (fun j => v (ix4 0 0 j d))
    = att (fun j => ∑ a : Fin 256, q (ix2 r (hd e a)) * x3 (ix4 0 0 (hd e a) j)) (fun j => x4 (ix4 0 0 j e)) := by
  refine att_congr (fun j => Finset.sum_congr rfl fun a _ => ?_) fun j => ?_
  · rw [hk, hd_eq e a o _ ho]
  · rw [hv]
    exact congrArg (fun z => x4 (ix4 0 0 j z)) (Fin.ext hd')

set_option maxHeartbeats 1600000 in
/-- What the body leaves of one block. -/
theorem block_at (x0 : Vec Ideal S1x1024x1024 .f32) (x1 : Vec Ideal S1x1024 .f32) (x2 : Vec Ideal S1x1024x1024 .bf16)
    (x3 : Vec Ideal S1x1x1024x256 .bf16) (x4 : Vec Ideal S1x1x256x1024 .bf16) (x5 : Vec Ideal S1x1024x1024 .bf16) (r c : Fin 1024) :
    out0_6 (F := Ideal) x0 x1 x2 x3 x4 x5 (ix3 0 r c)
    = x0 (ix3 0 r c) + ∑ e : Fin 1024, att (fun j => ∑ a : Fin 256, k0_pay3 (F := Ideal) x0 x1 x2 (ix2 r (hd e a)) * x3 (ix4 0 0 (hd e a) j))
      (fun j => x4 (ix4 0 0 j e)) * x5 (ix3 0 e c) := by
  unfold_out out0_6
  frame_out
  refine (out_at _ _ _ _ _ _ _ _ _ r c).trans (congrArg₂ (· + ·) ?_ (Finset.sum_congr rfl fun e _ => congrArg₂ (· * ·) ?_ ?_))
  · pointwise [k0_pay2]
  · split_ifs with h0 h1 h2
    · refine (head0_at _ _ _ _ _ _ _).trans (head_eq _ x3 x4 _ _ r e 0 (by norm_num) (by omega) _ (by simp) (fun a j => ?_) fun j a => ?_)
      · pointwise []
      · pointwise []
    · refine (head1_at _ _ _ _ _).trans (head_eq _ x3 x4 _ _ r e 256 (by norm_num) (by omega) _ (by simp only []; omega) (fun a j => ?_) fun j a => ?_)
      · pointwise []
      · pointwise []
    · refine head_eq _ x3 x4 _ _ r e 512 (by norm_num) (by omega) _ (by simp only []; omega) (fun a j => ?_) fun j a => ?_
      · pointwise []
      · pointwise []
    · refine head_eq _ x3 x4 _ _ r e 768 (by norm_num) (by omega) _ (by simp only []; omega) (fun a j => ?_) fun j a => ?_
      · pointwise []
      · pointwise []
  · pointwise []

open Cert.Reference3Ideal.Read in
theorem rq_at (X G Wq) (b : Fin 16) (s : Fin 2048) (h : Fin 4) (d : Fin 256) :
    val_main_v18 (F := Ideal) X G Wq (ix4 b s h d)
    = ∑ k, rms (fun j => X (ix3 b s j)) (fun j => G (ix2 1 j)) k * Wq (ix3 1 k ⟨h * 256 + d, by omega⟩) := by
  have h14 (b : Fin 16) (s : Fin 2048) (k : Fin 1024) : val_main_v14 (F := Ideal) X G (ix3 b s k)
      = rms (fun j => X (ix3 b s j)) (fun j => G (ix2 1 j)) k := by
    pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]
  simp only [← h14]
  pointwise [val_main_v18, val_main_v17, val_main_v16, val_main_v15]

open Cert.Reference3Ideal.Read in
theorem rs_at (X G Wq K) (b : Fin 16) (s : Fin 2048) (h : Fin 4) (j : Fin 256) :
    val_main_v28 (F := Ideal) X G Wq K (ix4 b h s j)
    = (∑ d : Fin 256, val_main_v18 (F := Ideal) X G Wq (ix4 b s h d) * K (ix4 1 b ⟨h * 256 + d, by omega⟩ j)) * Ideal.ofBits .f32 1031798784#32 := by
  pointwise [val_main_v28, val_main_v27, val_main_v26, val_main_v22, val_main_v21, val_main_v20, val_main_v19, val_main_cst_2]

/-- The greatest entry along the last of four axes. -/
theorem maxLast {n0 n1 n2 n3 : ℕ} (x : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (c : Fin n2) :
    Host.reduce FloatOps.maximumf x init h hu (ix3 a b c) = Finset.univ.fold max (init (Shape.Idx.first hu)) fun k => x (ix4 a b c k) :=
  (Host.reduce_eq_fold _ _ _ _ _ _).trans (Shape.ReducesTo.fold_fiber_r4_a3 h _ _ _ _)

open Cert.Reference3Ideal.Read in
theorem rm_at (X G Wq K) (b : Fin 16) (s : Fin 2048) (h : Fin 4) :
    val_main_v29 (F := Ideal) X G Wq K (ix3 b h s) = mx (fun j => val_main_v28 (F := Ideal) X G Wq K (ix4 b h s j)) := by
  unfold val_main_v29
  exact maxLast _ _ _ _ _ _ _

theorem wt_eq (s : Fin 256 → EReal) (j : Fin 256) : Ideal.exp (s j - max (Ideal.ofBits .f32 4286578688#32) (mx s)) = wt s j := by
  rw [wt, ofBits_bot, bot_sup_eq]

open Cert.Reference3Ideal.Read in
theorem rc_at (i : Cert.Reference3Ideal.S16x4x2048.Idx) : val_main_v30 (F := Ideal) i = Ideal.ofBits .f32 4286578688#32 := by
  rw [val_main_v30_apply, val_main_cst_4_apply]
  rfl

open Cert.Reference3Ideal.Read in
theorem rx_at (X G Wq K) (b : Fin 16) (s : Fin 2048) (h : Fin 4) (j : Fin 256) :
    val_main_v33 (F := Ideal) X G Wq K (ix4 b h s j)
    = max (val_main_v30 (F := Ideal) (ix3 b h s)) (val_main_v29 (F := Ideal) X G Wq K (ix3 b h s)) := by
  rw [val_main_v33_apply, val_main_v32_apply, val_main_v31_apply]
  generalize val_main_v29 (F := Ideal) X G Wq K = M
  generalize val_main_v30 (F := Ideal) = A
  have e : idx_main_v32 (idx_main_v33 (ix4 b h s j)) = ix3 b h s := by
    funext a
    match a with
    | ⟨0, _⟩ => rfl
    | ⟨1, _⟩ => rfl
    | ⟨2, _⟩ => rfl
  rw [e]
  rfl

open Cert.Reference3Ideal.Read in
theorem re_at (X G Wq K) (b : Fin 16) (s : Fin 2048) (h : Fin 4) (j : Fin 256) :
    val_main_v35 (F := Ideal) X G Wq K (ix4 b h s j) = Ideal.exp (val_main_v28 (F := Ideal) X G Wq K (ix4 b h s j) -
      val_main_v33 (F := Ideal) X G Wq K (ix4 b h s j)) := rfl

open Cert.Reference3Ideal.Read in
theorem rw_at (X G Wq K) (b : Fin 16) (s : Fin 2048) (h : Fin 4) (j : Fin 256) :
    val_main_v35 (F := Ideal) X G Wq K (ix4 b h s j) = wt (fun j => val_main_v28 (F := Ideal) X G Wq K (ix4 b h s j)) j := by
  refine (re_at X G Wq K b s h j).trans (Eq.trans (congrArg (fun z => Ideal.exp (val_main_v28 (F := Ideal) X G Wq K (ix4 b h s j) - z)) ?_) (wt_eq (fun j => val_main_v28 (F := Ideal) X G Wq K (ix4 b h s j)) j))
  rw [rx_at, rm_at, rc_at]

open Cert.Reference3Ideal.Read in
theorem ro_at (X G Wq K V) (b : Fin 16) (s : Fin 2048) (h : Fin 4) (d : Fin 256) :
    val_main_v41 (F := Ideal) X G Wq K V (ix4 b s h d)
    = ∑ j, V (ix4 1 b j ⟨h * 256 + d, by omega⟩) * Ideal.div (wt (fun j => val_main_v28 (F := Ideal) X G Wq K (ix4 b h s j)) j)
      (∑ i, wt (fun j => val_main_v28 (F := Ideal) X G Wq K (ix4 b h s j)) i) := by
  simp only [← rw_at]
  pointwise [val_main_v41, val_main_v40, val_main_v39, val_main_v38, val_main_v37, val_main_v36, val_main_cst_5, val_main_v25, val_main_v24, val_main_v23]

open Cert.Reference3Ideal.Read in
theorem rout_at (X G Wq K V Wo) (b : Fin 16) (s : Fin 2048) (c : Fin 1024) :
    val_main_v46 (F := Ideal) X G Wq K V Wo (ix3 b s c)
    = X (ix3 b s c) + ∑ e : Fin 1024, val_main_v41 (F := Ideal) X G Wq K V (ix4 b s ⟨e / 256, by omega⟩ ⟨e % 256, by omega⟩) * Wo (ix3 1 e c) := by
  pointwise [val_main_v46, val_main_v45, val_main_v44, val_main_v43, val_main_v42]

open Cert.Reference3Ideal.Read in
/-- The reference's mean for a feature, as the kernel computes it, when what the scores are made of is real. -/
theorem rhead_at (X G Wq K V) (hX : ∀ i, IsR (X i)) (hG : ∀ i, IsR (G i)) (hW : ∀ i, IsR (Wq i)) (hK : ∀ i, IsR (K i))
    (b : Fin 16) (s : Fin 2048) (e : Fin 1024) :
    val_main_v41 (F := Ideal) X G Wq K V (ix4 b s ⟨e / 256, by omega⟩ ⟨e % 256, by omega⟩)
    = att (fun j => ∑ a : Fin 256, (∑ k, rms (fun j => X (ix3 b s j)) (fun j => G (ix2 1 j)) k * Wq (ix3 1 k (hd e a))) * Ideal.ofBits .f32 1031798784#32
        * K (ix4 1 b (hd e a) j)) (fun j => V (ix4 1 b j e)) := by
  have hS (j : Fin 256) : IsR (val_main_v28 (F := Ideal) X G Wq K (ix4 b ⟨e / 256, by omega⟩ s j)) := by
    rw [rs_at]
    refine IsR.mul (isR_sum fun d => IsR.mul ?_ (hK _)) ⟨_, ofBits_sixteenth⟩
    rw [rq_at]
    exact isR_sum fun k => IsR.mul (isR_rms (fun j => hX _) (fun j => hG _) k) (hW _)
  rw [ro_at]
  refine (att_eq hS _).symm.trans (att_congr (fun j => ?_) fun j => ?_)
  · rw [rs_at, ofBits_sixteenth, sum_mul_real _ (by norm_num)]
    refine Finset.sum_congr rfl fun a _ => ?_
    rw [rq_at, mul_right_comm]
    rfl
  · exact congrArg (fun z => V (ix4 1 b j z)) (Fin.ext (Nat.div_add_mod' _ _))

theorem idx : ∀ t : Fin cfg0.N, win0_0.index t = ![t.val / 2, t.val % 2, 0] ∧ win0_1.index t = ![0, 0] ∧ win0_2.index t = ![1, 0, 0]
    ∧ win0_3.index t = ![1, t.val / 2, 0, 0] ∧ win0_4.index t = ![1, t.val / 2, 0, 0] ∧ win0_5.index t = ![1, 0, 0]
    ∧ win0_6.index t = ![t.val / 2, t.val % 2, 0] :=
  (by decide +kernel : ∀ t : Fin grid0.N, _)

/-- The reference's result over the kernel's argument arrays. -/
abbrev REF (c : Dev nD) : FVec Ideal S16x2048x1024 .f32 :=
  Cert.Reference3Ideal.Read.val_main_v46 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- What the scores are computed from is real. -/
def Real4 : Prop := ∀ c : Dev nD, (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))

/-- What a grid point leaves of its block is the reference's result at the block's place. -/
theorem point (hm : Real4 m) (c : Dev nD) (t : Fin cfg0.N) (y) :
    out0_6 (F := Ideal) (iblk m c 0 t) (iblk m c 1 t) (iblk m c 2 t) (iblk m c 3 t) (iblk m c 4 t) (iblk m c 5 t) y
    = REF m c (((cfg0.win 6).blk t).view.emb y) := by
  have hy : y = ix3 0 (y 1) (y 2) := (eq_ix3 y).trans (congrArg (fun z => ix3 z (y 1) (y 2)) (Subsingleton.elim (α := Fin 1) _ _))
  refine ((congrArg _ hy).trans (block_at _ _ _ _ _ _ (y 1) (y 2))).trans ?_
  have e0 : ((((cfg0.win 6).blk t).view.emb y) 0 : ℕ) = t.val / 2 := by
    have h : (y 0).val = 0 := Fin.val_eq_zero (show Fin 1 from y 0)
    blk_simp [idx t]
    try omega
  have e1 : ((((cfg0.win 6).blk t).view.emb y) 1 : ℕ) = t.val % 2 * 1024 + (y 1).val := by
    blk_simp [idx t]
  have e2 : ((((cfg0.win 6).blk t).view.emb y) 2 : ℕ) = (y 2).val := by
    blk_simp [idx t]
  generalize ((cfg0.win 6).blk t).view.emb y = z at e0 e1 e2 ⊢
  obtain ⟨hX, hG, hW, hK⟩ := hm c
  refine Eq.trans ?_ (Eq.symm (Eq.trans (congrArg (REF m c) (eq_ix3 z)) (rout_at _ _ _ _ _ _ (z 0) (z 1) (z 2))))
  refine congrArg₂ (· + ·) ?_ (Finset.sum_congr rfl fun e _ => congrArg₂ (· * ·) ?_ ?_)
  · blk_point [iblk, V, idx t]
  · refine Eq.trans (att_congr (fun j => Finset.sum_congr rfl fun a _ => congrArg₂ (· * ·) ?_ ?_) fun j => ?_) (rhead_at _ _ _ _ _ hX hG hW hK (z 0) (z 1) e).symm
    · refine (q_at _ _ _ _ _).trans (congrArg (· * _) (Finset.sum_congr rfl fun k _ => congrArg₂ (· * ·) (rms_congr (fun l => ?_) (fun l => ?_) rfl) ?_))
      · blk_point [iblk, V, idx t]
      · blk_point [iblk, V, idx t]
      · blk_point [iblk, V, idx t]
    · blk_point [iblk, V, idx t]
    · blk_point [iblk, V, idx t]
  · blk_point [iblk, V, idx t]

theorem final (hm : Real4 m) (c : Dev nD) : (dats m 0 c).arrAt 6 (cfgs 0).N = REF m c := by
  refine (dats m 0 c).arrAt_eq_of_covers 6 _ (by decide +kernel) fun t _ y => ?_
  blk_simp
  rw [after0_6]
  exact point m hm c t y

end Cert.Xattn
end
-- ==== Proof.Kv.lean ====
module
public import proofs.«01_k».proof.Proof.Gen.Kernel4Ideal.Value
public import proofs.«01_k».proof.Proof.Gen.Reference4Ideal.Read
public import proofs.«01_k».proof.Proof.Sums
@[expose] public section
set_option maxRecDepth 16384
noncomputable section
open Idealize.ShloMosaic Idealize.ShloMosaic.TcCoe Idealize.SL.Sem
open Idealize.ShloMosaic.Pipeline (Dat)
namespace Cert.Kv
open Cert.Layer Cert.Kernel4Ideal Cert.Kernel4Ideal.Gen
variable (m : (ℓ : Loc nD τ sig) → Buf (Elt Ideal) ℓ)

/-- The normed memory rows of two batches, one below the other. -/
theorem norm_at (x0 : Vec Ideal S2x256x1024 .f32) (x1 : Vec Ideal S1x1x1024 .f32) (p : Fin 512) (k : Fin 1024) :
    k0_pay4 (F := Ideal) x0 x1 (ix2 p k) = rms (fun j => x0 (ix3 ⟨p / 256, by omega⟩ ⟨p % 256, by omega⟩ j)) (fun j => x1 (ix3 0 0 j)) k := by
  pointwise [k0_pay4, rms]

/-- The keys of those rows. -/
theorem key_at (x0 : Vec Ideal S2x256x1024 .f32) (x1 : Vec Ideal S1x1x1024 .f32) (x2 : Vec Ideal S1x1024x1024 .bf16) (p : Fin 512) (e : Fin 1024) :
    k0_pay5 (F := Ideal) x0 x1 x2 (ix2 p e) = ∑ k : Fin 1024,
      rms (fun j => x0 (ix3 ⟨p / 256, by omega⟩ ⟨p % 256, by omega⟩ j)) (fun j => x1 (ix3 0 0 j)) k * x2 (ix3 0 k e) := by
  simp only [← norm_at]
  pointwise [k0_pay5]

/-- The values of those rows. -/
theorem value_at (x0 : Vec Ideal S2x256x1024 .f32) (x1 : Vec Ideal S1x1x1024 .f32) (x2 : Vec Ideal S1x1024x1024 .bf16) (p : Fin 512) (e : Fin 1024) :
    k0_pay6 (F := Ideal) x0 x1 x2 (ix2 p e) = ∑ k : Fin 1024,
      rms (fun j => x0 (ix3 ⟨p / 256, by omega⟩ ⟨p % 256, by omega⟩ j)) (fun j => x1 (ix3 0 0 j)) k * x2 (ix3 0 k e) := by
  simp only [← norm_at]
  pointwise [k0_pay6]

open Cert.Reference4Ideal.Read in
theorem rnorm_at (M G) (l : Fin 2) (b : Fin 16) (r : Fin 256) (k : Fin 1024) :
    val_main_v14 (F := Ideal) M G (ix4 l b r k) = rms (fun j => M (ix3 b r j)) (fun j => G (ix2 l j)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.Reference4Ideal.Read in
theorem rkey_at (M G W) (l : Fin 2) (b : Fin 16) (e : Fin 1024) (r : Fin 256) :
    val_main_v18 (F := Ideal) M G W (ix4 l b e r) = ∑ k : Fin 1024, rms (fun j => M (ix3 b r j)) (fun j => G (ix2 l j)) k * W (ix3 l k e) := by
  simp only [← rnorm_at]
  pointwise [val_main_v18, val_main_v17, val_main_v15]

open Cert.Reference4Ideal.Read in
theorem rvalue_at (M G W) (l : Fin 2) (b : Fin 16) (r : Fin 256) (e : Fin 1024) :
    val_main_v19 (F := Ideal) M G W (ix4 l b r e) = ∑ k : Fin 1024, rms (fun j => M (ix3 b r j)) (fun j => G (ix2 l j)) k * W (ix3 l k e) := by
  simp only [← rnorm_at]
  pointwise [val_main_v19, val_main_v16]

theorem idx : ∀ t : Fin cfg0.N, win0_0.index t = ![t.val % 8, 0, 0] ∧ win0_1.index t = ![t.val / 8, 0, 0] ∧ win0_2.index t = ![t.val / 8, 0, 0]
    ∧ win0_3.index t = ![t.val / 8, 0, 0] ∧ win0_4.index t = ![t.val / 8, t.val % 8, 0, 0] ∧ win0_5.index t = ![t.val / 8, t.val % 8, 0, 0] :=
  (by decide +kernel : ∀ t : Fin grid0.N, _)

/-- The reference's keys and values over the kernel's argument arrays. -/
abbrev REFK (c : Dev nD) : FVec Ideal S2x16x1024x256 .bf16 :=
  Cert.Reference4Ideal.Read.val_main_v18 (F := Ideal) (m ((c : Thread nD τ).loc main_arg0)) (m ((c : Thread nD τ).loc main_arg1))
    (m ((c : Thread nD τ).loc main_arg2))
abbrev REFV (c : Dev nD) : FVec Ideal S2x16x256x1024 .bf16 :=
  Cert.Reference4Ideal.Read.val_main_v19 (F := Ideal) (m ((c : Thread nD τ).loc main_arg0)) (m ((c : Thread nD τ).loc main_arg1))
    (m ((c : Thread nD τ).loc main_arg3))

theorem kcore (c : Dev nD) (t : Fin cfg0.N) (p : Fin 512) (e : Fin 1024) (l : Fin 2) (b : Fin 16) (r : Fin 256)
    (hl : (l : ℕ) = t.val / 8) (hb : (b : ℕ) = t.val % 8 * 2 + p / 256) (hr : (r : ℕ) = p % 256) :
    k0_pay5 (F := Ideal) (iblk m c 0 t) (iblk m c 1 t) (iblk m c 2 t) (ix2 p e) = REFK m c (ix4 l b e r) := by
  refine (key_at _ _ _ p e).trans ((Finset.sum_congr rfl fun k _ => ?_).trans (rkey_at _ _ _ l b e r).symm)
  refine congrArg₂ (· * ·) (rms_congr (fun j => ?_) (fun j => ?_) rfl) ?_
  · blk_point [iblk, V, idx t]
  · blk_point [iblk, V, idx t]
  · blk_point [iblk, V, idx t]

theorem vcore (c : Dev nD) (t : Fin cfg0.N) (p : Fin 512) (e : Fin 1024) (l : Fin 2) (b : Fin 16) (r : Fin 256)
    (hl : (l : ℕ) = t.val / 8) (hb : (b : ℕ) = t.val % 8 * 2 + p / 256) (hr : (r : ℕ) = p % 256) :
    k0_pay6 (F := Ideal) (iblk m c 0 t) (iblk m c 1 t) (iblk m c 3 t) (ix2 p e) = REFV m c (ix4 l b r e) := by
  refine (value_at _ _ _ p e).trans ((Finset.sum_congr rfl fun k _ => ?_).trans (rvalue_at _ _ _ l b r e).symm)
  refine congrArg₂ (· * ·) (rms_congr (fun j => ?_) (fun j => ?_) rfl) ?_
  · blk_point [iblk, V, idx t]
  · blk_point [iblk, V, idx t]
  · blk_point [iblk, V, idx t]

theorem kpoint (c : Dev nD) (t : Fin cfg0.N) (y) :
    out0_4 (F := Ideal) (iblk m c 0 t) (iblk m c 1 t) (iblk m c 2 t) (iblk m c 3 t) y = REFK m c (((cfg0.win 4).blk t).view.emb y) := by
  have e0 : ((((cfg0.win 4).blk t).view.emb y) 0 : ℕ) = t.val / 8 + (y 0).val := by blk_simp [idx t]
  have e1 : ((((cfg0.win 4).blk t).view.emb y) 1 : ℕ) = t.val % 8 * 2 + (y 1).val := by blk_simp [idx t]
  have e2 : ((((cfg0.win 4).blk t).view.emb y) 2 : ℕ) = (y 2).val := by blk_simp [idx t]
  have e3 : ((((cfg0.win 4).blk t).view.emb y) 3 : ℕ) = (y 3).val := by blk_simp [idx t]
  generalize ((cfg0.win 4).blk t).view.emb y = z at e0 e1 e2 e3 ⊢
  have y0 : (y 0).val < 1 := (y 0).isLt
  have y1 : (y 1).val < 2 := (y 1).isLt
  have y3 : (y 3).val < 256 := (y 3).isLt
  obtain_idx i : S512x1024 := [256 * (y 1 : ℕ) + (y 3 : ℕ), (y 2 : ℕ)] with hi
  refine Eq.trans (b := k0_pay5 (F := Ideal) (iblk m c 0 t) (iblk m c 1 t) (iblk m c 2 t) i) ?_
    ((congrArg _ (eq_ix2 i)).trans ((kcore m c t (i 0) (i 1) (z 0) (z 1) (z 3) (by omega) (by omega) (by omega)).trans
      (congrArg (REFK m c) ?_)))
  · canon_tiles x h
    all_goals (open_payloads; pointwise; blk_ext)
  · blk_ext

theorem vpoint (c : Dev nD) (t : Fin cfg0.N) (y) :
    out0_5 (F := Ideal) (iblk m c 0 t) (iblk m c 1 t) (iblk m c 2 t) (iblk m c 3 t) y = REFV m c (((cfg0.win 5).blk t).view.emb y) := by
  have e0 : ((((cfg0.win 5).blk t).view.emb y) 0 : ℕ) = t.val / 8 + (y 0).val := by blk_simp [idx t]
  have e1 : ((((cfg0.win 5).blk t).view.emb y) 1 : ℕ) = t.val % 8 * 2 + (y 1).val := by blk_simp [idx t]
  have e2 : ((((cfg0.win 5).blk t).view.emb y) 2 : ℕ) = (y 2).val := by blk_simp [idx t]
  have e3 : ((((cfg0.win 5).blk t).view.emb y) 3 : ℕ) = (y 3).val := by blk_simp [idx t]
  generalize ((cfg0.win 5).blk t).view.emb y = z at e0 e1 e2 e3 ⊢
  have y0 : (y 0).val < 1 := (y 0).isLt
  have y1 : (y 1).val < 2 := (y 1).isLt
  have y2 : (y 2).val < 256 := (y 2).isLt
  obtain_idx i : S512x1024 := [256 * (y 1 : ℕ) + (y 2 : ℕ), (y 3 : ℕ)] with hi
  refine Eq.trans (b := k0_pay6 (F := Ideal) (iblk m c 0 t) (iblk m c 1 t) (iblk m c 3 t) i) ?_
    ((congrArg _ (eq_ix2 i)).trans ((vcore m c t (i 0) (i 1) (z 0) (z 1) (z 2) (by omega) (by omega) (by omega)).trans
      (congrArg (REFV m c) ?_)))
  · canon_tiles x h
    all_goals (open_payloads; pointwise; blk_ext)
  · blk_ext

theorem kfinal (c : Dev nD) : (dats m 0 c).arrAt 4 (cfgs 0).N = REFK m c := by
  refine (dats m 0 c).arrAt_eq_of_covers 4 _ (by decide +kernel) fun t _ y => ?_
  blk_simp
  rw [after0_4]
  exact kpoint m c t y

theorem vfinal (c : Dev nD) : (dats m 0 c).arrAt 5 (cfgs 0).N = REFV m c := by
  refine (dats m 0 c).arrAt_eq_of_covers 5 _ (by decide +kernel) fun t _ y => ?_
  blk_simp
  rw [after0_5]
  exact vpoint m c t y

end Cert.Kv
end
-- ==== Proof.Ffn5.lean ====
module
public import proofs.«01_k».proof.Proof.Gen.Kernel5Ideal.Value
public import proofs.«01_k».proof.Proof.Gen.Reference5Ideal.Read
public import proofs.«01_k».proof.Proof.Sums
@[expose] public section
set_option maxRecDepth 16384
noncomputable section
open Idealize.ShloMosaic Idealize.ShloMosaic.TcCoe Idealize.SL.Sem
open Idealize.ShloMosaic.Pipeline (Dat)
namespace Cert.Ffn5
open Cert.Layer Cert.Kernel5Ideal Cert.Kernel5Ideal.Gen
variable (m : (ℓ : Loc nD τ sig) → Buf (Elt Ideal) ℓ)

/-- The norm before the network. -/
theorem norm_at (x0 : Vec Ideal S1024x1024 .f32) (x1 : Vec Ideal S1x1024 .f32) (r k : Fin 1024) :
    k0_pay12 (F := Ideal) x0 x1 (ix2 r k) = rms (fun j => x0 (ix2 r j)) (fun j => x1 (ix2 0 j)) k := by
  pointwise [k0_pay12, k0_pay11, rms]

set_option maxHeartbeats 1600000 in
/-- What the body leaves of one block of the network's output. -/
theorem block_at (x0 : Vec Ideal S1024x1024 .f32) (x1 : Vec Ideal S1x1024 .f32) (x2 x3 : Vec Ideal S1x1024x2816 .bf16)
    (x4 : Vec Ideal S1x2816x1024 .bf16) (x5 : Vec Ideal S64x1408 .f32) (x6 x7 x8 x9 x10 : Vec Ideal S64x1024 .f32) (x11 x12 : Vec Ideal S64x2816 .f32) (x13 : Vec Ideal S176x1024 .f32) (r c : Fin 1024) :
    out0_14 (F := Ideal) x0 x1 x2 x3 x4 x5 x6 x7 x8 x9 x10 x11 x12 x13 (ix2 r c)
    = x0 (ix2 r c) + Ideal.ofBits .f32 1056964608#32 *
        ffn (rms (fun j => x0 (ix2 r j)) (fun j => x1 (ix2 0 j))) (fun k f => x2 (ix3 0 k f)) (fun k f => x3 (ix3 0 k f))
          (fun f => x4 (ix3 0 f c)) := by
  simp only [ffn, sum_runs, gate, ← norm_at]
  unfold_out out0_14
  frame_out
  pointwise [k0_pay1, k0_pay11, k0_pay13, k0_pay14, k0_pay15, k0_pay16, k0_pay17, k0_pay18, k0_pay19, k0_pay20, k0_pay21, k0_pay22, k0_pay23, k0_pay24]

open Cert.Reference5Ideal.Read in
/-- The reference at an entry. -/
theorem ref_at (X G Wg Wu Wd) (R : Fin 32768) (c : Fin 1024) :
    val_main_v29 (F := Ideal) X G Wg Wu Wd (ix2 R c)
    = X (ix3 ⟨R / 2048, by omega⟩ ⟨R % 2048, by omega⟩ c) + Ideal.ofBits .f32 1056964608#32 *
        ffn (rms (fun j => X (ix3 ⟨R / 2048, by omega⟩ ⟨R % 2048, by omega⟩ j)) (fun j => G (ix2 0 j))) (fun k f => Wg (ix3 0 k f)) (fun k f => Wu (ix3 0 k f))
          (fun f => Wd (ix3 0 f c)) := by
  have h14 (b : Fin 16) (s : Fin 2048) (k : Fin 1024) : val_main_v14 (F := Ideal) X G (ix3 b s k)
      = rms (fun j => X (ix3 b s j)) (fun j => G (ix2 0 j)) k := by
    pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]
  simp only [ffn, gate, ← h14]
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_call0_v5, val_main_call0_v4, val_main_call0_v3, val_main_call0_v2, val_main_call0_v1, val_main_call0_v0, val_main_call0_cst, val_main_call0_cst_0]
  rfl

theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_14.index t = ![t.val, 0] :=
  (by decide +kernel : ∀ t : Fin grid0.N, _)

/-- The reference's first result over the kernel's argument arrays. -/
abbrev REF (c : Dev nD) : FVec Ideal S32768x1024 .f32 :=
  Cert.Reference5Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a grid point leaves of its block is the reference's result at the block's place. -/
theorem point (c : Dev nD) (t : Fin cfg0.N) (y) :
    out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y
    = REF m c (((cfg0.win 14).blk t).view.emb y) := by
  refine ((congrArg _ (eq_ix2 y)).trans (block_at _ _ _ _ _ _ _ _ _ _ _ _ _ _ (y 0) (y 1))).trans ?_
  have e0 : ((((cfg0.win 14).blk t).view.emb y) 0 : ℕ) = t.val * 1024 + (y 0).val := by
    blk_simp [idx t]
  have e1 : ((((cfg0.win 14).blk t).view.emb y) 1 : ℕ) = (y 1).val := by
    blk_simp [idx t]
  generalize ((cfg0.win 14).blk t).view.emb y = z at e0 e1 ⊢
  refine Eq.trans ?_ (Eq.symm (Eq.trans (congrArg (REF m c) (eq_ix2 z)) (ref_at _ _ _ _ _ (z 0) (z 1))))
  have hx (j : Fin 1024) : iblk m c 0 t (ix2 (y 0) j) = m ((c : Thread nD τ).loc main_arg0)
      (ix3 ⟨(z 0).val / 2048, by have := (z 0).isLt; change _ < 32768 at this; omega⟩ ⟨(z 0).val % 2048, by omega⟩ j) := by
    blk_point [iblk, V, idx t]
  have hc : (y 1 : Fin 1024) = z 1 := Fin.ext e1.symm
  refine congrArg₂ (· + ·) ((hx _).trans (congrArg (fun q : Fin 1024 => m ((c : Thread nD τ).loc main_arg0) (ix3 _ _ q)) hc))
    (congrArg _ (ffn_congr (fun k => rms_congr hx (fun l => ?_) rfl) (fun k f => ?_) (fun k f => ?_) fun f => ?_))
  · blk_point [iblk, V, idx t]
  · blk_point [iblk, V, idx t]
  · blk_point [iblk, V, idx t]
  · blk_point [iblk, V, idx t]

theorem final (c : Dev nD) : (dats m 0 c).arrAt 14 (cfgs 0).N = REF m c := by
  refine (dats m 0 c).arrAt_eq_of_covers 14 _ (by decide +kernel) fun t _ y => ?_
  blk_simp
  rw [after0_14]
  exact point m c t y

/-! The weights that pass through. -/

theorem idx' : ∀ t : Fin cfg0.N, win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0] :=
  (by decide +kernel : ∀ t : Fin grid0.N, _)

theorem final15 (c : Dev nD) : (dats m 0 c).arrAt 15 (cfgs 0).N
    = Cert.Reference5Ideal.Read.val_main_v31 (F := Ideal) (m ((c : Thread nD τ).loc main_arg5)) := by
  refine (dats m 0 c).arrAt_eq_of_covers 15 _ (by decide +kernel) fun t _ y => ?_
  blk_simp
  rw [after0_15]
  unfold_out out0_15
  frame_out
  blk_point [k0_pay2, Cert.Reference5Ideal.Read.val_main_v31, Cert.Reference5Ideal.Read.val_main_v30, iblk, V, idx' t]

theorem final16 (c : Dev nD) : (dats m 0 c).arrAt 16 (cfgs 0).N
    = Cert.Reference5Ideal.Read.val_main_v33 (F := Ideal) (m ((c : Thread nD τ).loc main_arg6)) := by
  refine (dats m 0 c).arrAt_eq_of_covers 16 _ (by decide +kernel) fun t _ y => ?_
  blk_simp
  rw [after0_16]
  unfold_out out0_16
  frame_out
  blk_point [k0_pay3, Cert.Reference5Ideal.Read.val_main_v33, Cert.Reference5Ideal.Read.val_main_v32, iblk, V, idx' t]

theorem final17 (c : Dev nD) : (dats m 0 c).arrAt 17 (cfgs 0).N
    = Cert.Reference5Ideal.Read.val_main_v35 (F := Ideal) (m ((c : Thread nD τ).loc main_arg7)) := by
  refine (dats m 0 c).arrAt_eq_of_covers 17 _ (by decide +kernel) fun t _ y => ?_
  blk_simp
  rw [after0_17]
  unfold_out out0_17
  frame_out
  blk_point [k0_pay4, Cert.Reference5Ideal.Read.val_main_v35, Cert.Reference5Ideal.Read.val_main_v34, iblk, V, idx' t]

theorem final18 (c : Dev nD) : (dats m 0 c).arrAt 18 (cfgs 0).N
    = Cert.Reference5Ideal.Read.val_main_v37 (F := Ideal) (m ((c : Thread nD τ).loc main_arg8)) := by
  refine (dats m 0 c).arrAt_eq_of_covers 18 _ (by decide +kernel) fun t _ y => ?_
  blk_simp
  rw [after0_18]
  unfold_out out0_18
  frame_out
  blk_point [k0_pay5, Cert.Reference5Ideal.Read.val_main_v37, Cert.Reference5Ideal.Read.val_main_v36, iblk, V, idx' t]

theorem final19 (c : Dev nD) : (dats m 0 c).arrAt 19 (cfgs 0).N
    = Cert.Reference5Ideal.Read.val_main_v39 (F := Ideal) (m ((c : Thread nD τ).loc main_arg9)) := by
  refine (dats m 0 c).arrAt_eq_of_covers 19 _ (by decide +kernel) fun t _ y => ?_
  blk_simp
  rw [after0_19]
  unfold_out out0_19
  frame_out
  blk_point [k0_pay6, Cert.Reference5Ideal.Read.val_main_v39, Cert.Reference5Ideal.Read.val_main_v38, iblk, V, idx' t]

theorem final20 (c : Dev nD) : (dats m 0 c).arrAt 20 (cfgs 0).N
    = Cert.Reference5Ideal.Read.val_main_v41 (F := Ideal) (m ((c : Thread nD τ).loc main_arg10)) := by
  refine (dats m 0 c).arrAt_eq_of_covers 20 _ (by decide +kernel) fun t _ y => ?_
  blk_simp
  rw [after0_20]
  unfold_out out0_20
  frame_out
  blk_point [k0_pay7, Cert.Reference5Ideal.Read.val_main_v41, Cert.Reference5Ideal.Read.val_main_v40, iblk, V, idx' t]

theorem final21 (c : Dev nD) : (dats m 0 c).arrAt 21 (cfgs 0).N
    = Cert.Reference5Ideal.Read.val_main_v43 (F := Ideal) (m ((c : Thread nD τ).loc main_arg11)) := by
  refine (dats m 0 c).arrAt_eq_of_covers 21 _ (by decide +kernel) fun t _ y => ?_
  blk_simp
  rw [after0_21]
  unfold_out out0_21
  frame_out
  blk_point [k0_pay8, Cert.Reference5Ideal.Read.val_main_v43, Cert.Reference5Ideal.Read.val_main_v42, iblk, V, idx' t]

theorem final22 (c : Dev nD) : (dats m 0 c).arrAt 22 (cfgs 0).N
    = Cert.Reference5Ideal.Read.val_main_v45 (F := Ideal) (m ((c : Thread nD τ).loc main_arg12)) := by
  refine (dats m 0 c).arrAt_eq_of_covers 22 _ (by decide +kernel) fun t _ y => ?_
  blk_simp
  rw [after0_22]
  unfold_out out0_22
  frame_out
  blk_point [k0_pay9, Cert.Reference5Ideal.Read.val_main_v45, Cert.Reference5Ideal.Read.val_main_v44, iblk, V, idx' t]

theorem final23 (c : Dev nD) : (dats m 0 c).arrAt 23 (cfgs 0).N
    = Cert.Reference5Ideal.Read.val_main_v47 (F := Ideal) (m ((c : Thread nD τ).loc main_arg13)) := by
  refine (dats m 0 c).arrAt_eq_of_covers 23 _ (by decide +kernel) fun t _ y => ?_
  blk_simp
  rw [after0_23]
  unfold_out out0_23
  frame_out
  blk_point [k0_pay10, Cert.Reference5Ideal.Read.val_main_v47, Cert.Reference5Ideal.Read.val_main_v46, iblk, V, idx' t]

end Cert.Ffn5
end
-- ==== Proof.Ffn6.lean ====
module
public import proofs.«01_k».proof.Proof.Gen.Kernel6Ideal.Value
public import proofs.«01_k».proof.Proof.Gen.Reference6Ideal.Read
public import proofs.«01_k».proof.Proof.Sums
@[expose] public section
set_option maxRecDepth 16384
noncomputable section
open Idealize.ShloMosaic Idealize.ShloMosaic.TcCoe Idealize.SL.Sem
open Idealize.ShloMosaic.Pipeline (Dat)
namespace Cert.Ffn6
open Cert.Layer Cert.Kernel6Ideal Cert.Kernel6Ideal.Gen
variable (m : (ℓ : Loc nD τ sig) → Buf (Elt Ideal) ℓ)

/-- The norm before the network. -/
theorem norm_at (x0 : Vec Ideal S1024x1024 .f32) (x1 : Vec Ideal S1x1024 .f32) (r k : Fin 1024) :
    k0_pay3 (F := Ideal) x0 x1 (ix2 r k) = rms (fun j => x0 (ix2 r j)) (fun j => x1 (ix2 0 j)) k := by
  pointwise [k0_pay3, k0_pay2, rms]

set_option maxHeartbeats 1600000 in
/-- What the body leaves of one block. -/
theorem block_at (x0 : Vec Ideal S1024x1024 .f32) (x1 : Vec Ideal S1x1024 .f32) (x2 x3 : Vec Ideal S1x1024x2816 .bf16)
    (x4 : Vec Ideal S1x2816x1024 .bf16) (r c : Fin 1024) :
    out0_5 (F := Ideal) x0 x1 x2 x3 x4 (ix2 r c)
    = x0 (ix2 r c) + Ideal.ofBits .f32 1056964608#32 *
        ffn (rms (fun j => x0 (ix2 r j)) (fun j => x1 (ix2 0 j))) (fun k f => x2 (ix3 0 k f)) (fun k f => x3 (ix3 0 k f))
          (fun f => x4 (ix3 0 f c)) := by
  simp only [ffn, sum_runs, gate, ← norm_at]
  unfold_out out0_5
  frame_out
  pointwise [k0_pay1, k0_pay2, k0_pay4, k0_pay5, k0_pay6, k0_pay7, k0_pay8, k0_pay9, k0_pay10, k0_pay11, k0_pay12, k0_pay13, k0_pay14]

open Cert.Reference6Ideal.Read in
/-- The reference at an entry. -/
theorem ref_at (X G Wg Wu Wd) (R : Fin 32768) (c : Fin 1024) :
    val_main_v29 (F := Ideal) X G Wg Wu Wd (ix2 R c)
    = X (ix3 ⟨R / 2048, by omega⟩ ⟨R % 2048, by omega⟩ c) + Ideal.ofBits .f32 1056964608#32 *
        ffn (rms (fun j => X (ix3 ⟨R / 2048, by omega⟩ ⟨R % 2048, by omega⟩ j)) (fun j => G (ix2 0 j))) (fun k f => Wg (ix3 0 k f)) (fun k f => Wu (ix3 0 k f))
          (fun f => Wd (ix3 0 f c)) := by
  have h14 (b : Fin 16) (s : Fin 2048) (k : Fin 1024) : val_main_v14 (F := Ideal) X G (ix3 b s k)
      = rms (fun j => X (ix3 b s j)) (fun j => G (ix2 0 j)) k := by
    pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]
  simp only [ffn, gate, ← h14]
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_call0_v5, val_main_call0_v4, val_main_call0_v3, val_main_call0_v2, val_main_call0_v1, val_main_call0_v0, val_main_call0_cst, val_main_call0_cst_0]
  rfl

theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The reference's result over the kernel's argument arrays. -/
abbrev REF (c : Dev nD) : FVec Ideal S32768x1024 .f32 :=
  Cert.Reference6Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a grid point leaves of its block is the reference's result at the block's place. -/
theorem point (c : Dev nD) (t : Fin cfg0.N) (y) :
    out0_5 (F := Ideal) (iblk m c 0 t) (iblk m c 1 t) (iblk m c 2 t) (iblk m c 3 t) (iblk m c 4 t) y
    = REF m c (((cfg0.win 5).blk t).view.emb y) := by
  refine ((congrArg _ (eq_ix2 y)).trans (block_at _ _ _ _ _ (y 0) (y 1))).trans ?_
  have e0 : ((((cfg0.win 5).blk t).view.emb y) 0 : ℕ) = t.val * 1024 + (y 0).val := by
    blk_simp [idx t]
  have e1 : ((((cfg0.win 5).blk t).view.emb y) 1 : ℕ) = (y 1).val := by
    blk_simp [idx t]
  generalize ((cfg0.win 5).blk t).view.emb y = z at e0 e1 ⊢
  refine Eq.trans ?_ (Eq.symm (Eq.trans (congrArg (REF m c) (eq_ix2 z)) (ref_at _ _ _ _ _ (z 0) (z 1))))
  have hx (j : Fin 1024) : iblk m c 0 t (ix2 (y 0) j) = m ((c : Thread nD τ).loc main_arg0)
      (ix3 ⟨(z 0).val / 2048, by have := (z 0).isLt; change _ < 32768 at this; omega⟩ ⟨(z 0).val % 2048, by omega⟩ j) := by
    blk_point [iblk, V, idx t]
  have hc : (y 1 : Fin 1024) = z 1 := Fin.ext e1.symm
  refine congrArg₂ (· + ·) ((hx _).trans (congrArg (fun q : Fin 1024 => m ((c : Thread nD τ).loc main_arg0) (ix3 _ _ q)) hc))
    (congrArg _ (ffn_congr (fun k => rms_congr hx (fun l => ?_) rfl) (fun k f => ?_) (fun k f => ?_) fun f => ?_))
  · blk_point [iblk, V, idx t]
  · blk_point [iblk, V, idx t]
  · blk_point [iblk, V, idx t]
  · blk_point [iblk, V, idx t]

theorem final (c : Dev nD) : (dats m 0 c).arrAt 5 (cfgs 0).N = REF m c := by
  refine (dats m 0 c).arrAt_eq_of_covers 5 _ (by decide +kernel) fun t _ y => ?_
  blk_simp
  rw [after0_5]
  exact point m c t y

end Cert.Ffn6
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Xattn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Kv
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Ffn5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Ffn6
public import proofs.«01_k».proof.Proof.Gen.Pre_finite3
public import Idealize.ShloMosaic.Adequacy
public import Idealize.ShloMosaic.Init

@[expose] public section

noncomputable section

namespace Cert.Proof

open Idealize.ShloMosaic Idealize.SL.Sem

theorem ref2 : @quiescent_Reference2Ideal Cert.Reference2Ideal.Gen.facts := by
  intro m g _
  refine (θ_run _ _ _).mono (fun r h => ⟨fun c => ?_, sem_eq_zero_of_no_sems rfl r.2⟩) (Cert.Reference2Ideal.Value.run m g)
  have h := h c
  simp only [h, and_self]

/-- The kernel's results are the reference's. -/
theorem alg2 : @algebraic_Kernel2Ideal_Reference2Ideal Cert.Kernel2Ideal.Gen.facts Cert.Reference2Ideal.Gen.facts := by
  pair_intro
  · run_from Cert.Kernel2Ideal.Gen.run_main m g
  · hlo_run
    exact (Cert.Ffn2.final m c).symm

theorem ref3 : @quiescent_Reference3Ideal Cert.Reference3Ideal.Gen.facts := by
  intro m g _
  refine (θ_run _ _ _).mono (fun r h => ⟨fun c => ?_, sem_eq_zero_of_no_sems rfl r.2⟩) (Cert.Reference3Ideal.Value.run m g)
  have h := h c
  simp only [h, and_self]

/-- The precondition, read at the entries. -/
theorem real_of_finite (m) (h : @Pre_Kernel3Ideal_finite3 Cert.Pre_finite3.Gen.facts m) : Cert.Xattn.Real4 m := by
  have top : Ideal.ofBits .f32 0x7F800000#32 = ⊤ := by simp [Ideal.ofBits, Ideal.ieee]
  have one (a : EReal) (h : BitVec.ofBool (decide (max a (-a) < Ideal.ofBits .f32 0x7F800000#32)) = 1#1) : Cert.Layer.IsR a := by
    rw [top] at h
    by_cases hl : max a (-a) < ⊤
    · exact Cert.Layer.isR_of_abs hl
    · simp [hl] at h
  intro c
  obtain ⟨h0, h1, h2, h3⟩ := h c
  exact ⟨fun i => one _ (congrFun h0 i), fun i => one _ (congrFun h1 i), fun i => one _ (congrFun h2 i), fun i => one _ (congrFun h3 i)⟩

/-- The kernel's results are the reference's. -/
theorem alg3 : @algebraic_Kernel3Ideal_Reference3Ideal_pre_finite3 Cert.Kernel3Ideal.Gen.facts Cert.Reference3Ideal.Gen.facts Cert.Pre_finite3.Gen.facts := by
  pair_intro
  · run_from Cert.Kernel3Ideal.Gen.run_main m g
  · hlo_run
    exact (Cert.Xattn.final m (real_of_finite m hpre) c).symm

theorem ref4 : @quiescent_Reference4Ideal Cert.Reference4Ideal.Gen.facts := by
  intro m g _
  refine (θ_run _ _ _).mono (fun r h => ⟨fun c => ?_, sem_eq_zero_of_no_sems rfl r.2⟩) (Cert.Reference4Ideal.Value.run m g)
  have h := h c
  simp only [h, and_self]

/-- The kernel's results are the reference's. -/
theorem alg4 : @algebraic_Kernel4Ideal_Reference4Ideal Cert.Kernel4Ideal.Gen.facts Cert.Reference4Ideal.Gen.facts := by
  pair_intro
  · run_from Cert.Kernel4Ideal.Gen.run_main m g
  · hlo_run
    · exact (Cert.Kv.kfinal m c).symm
    · exact (Cert.Kv.vfinal m c).symm

theorem ref5 : @quiescent_Reference5Ideal Cert.Reference5Ideal.Gen.facts := by
  intro m g _
  refine (θ_run _ _ _).mono (fun r h => ⟨fun c => ?_, sem_eq_zero_of_no_sems rfl r.2⟩) (Cert.Reference5Ideal.Value.run m g)
  have h := h c
  simp only [h, and_self]

set_option maxHeartbeats 2000000 in
/-- The kernel's results are the reference's. -/
theorem alg5 : @algebraic_Kernel5Ideal_Reference5Ideal Cert.Kernel5Ideal.Gen.facts Cert.Reference5Ideal.Gen.facts := by
  pair_intro
  · run_from Cert.Kernel5Ideal.Value.run_blocks m g
  · hlo_run
    · exact (Cert.Ffn5.final m c).symm
    · exact (Cert.Ffn5.final15 m c).symm
    · exact (Cert.Ffn5.final16 m c).symm
    · exact (Cert.Ffn5.final17 m c).symm
    · exact (Cert.Ffn5.final18 m c).symm
    · exact (Cert.Ffn5.final19 m c).symm
    · exact (Cert.Ffn5.final20 m c).symm
    · exact (Cert.Ffn5.final21 m c).symm
    · exact (Cert.Ffn5.final22 m c).symm
    · exact (Cert.Ffn5.final23 m c).symm

theorem ref6 : @quiescent_Reference6Ideal Cert.Reference6Ideal.Gen.facts := by
  intro m g _
  refine (θ_run _ _ _).mono (fun r h => ⟨fun c => ?_, sem_eq_zero_of_no_sems rfl r.2⟩) (Cert.Reference6Ideal.Value.run m g)
  have h := h c
  simp only [h, and_self]

/-- The kernel's results are the reference's. -/
theorem alg6 : @algebraic_Kernel6Ideal_Reference6Ideal Cert.Kernel6Ideal.Gen.facts Cert.Reference6Ideal.Gen.facts := by
  pair_intro
  · run_from Cert.Kernel6Ideal.Gen.run_main m g
  · hlo_run
    exact (Cert.Ffn6.final m c).symm

/-- Every claim: the frames, then that no rule was used, and the values. -/
theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Pre_finite3.Gen.facts,
    fun m g _ => Cert.Kernel.Gen.frame m g,
    fun m g _ => Cert.KernelIdeal.Gen.frame m g,
    fun m g _ => Cert.Kernel2.Gen.frame m g,
    fun m g _ => Cert.Kernel2Ideal.Gen.frame m g,
    ref2,
    fun m g _ => Cert.Kernel3.Gen.frame m g,
    fun m g _ => Cert.Kernel3Ideal.Gen.frame m g,
    fun m g _ => Cert.Kernel3Ideal.Gen.frame m g,
    ref3,
    fun m g _ => ref3 m g trivial,
    fun m g _ => Cert.Kernel4.Gen.frame m g,
    fun m g _ => Cert.Kernel4Ideal.Gen.frame m g,
    ref4,
    fun m g _ => Cert.Kernel5.Gen.frame m g,
    fun m g _ => Cert.Kernel5Ideal.Gen.frame m g,
    ref5,
    fun m g _ => Cert.Kernel6.Gen.frame m g,
    fun m g _ => Cert.Kernel6Ideal.Gen.frame m g,
    ref6,
    trivial,
    trivial,
    alg2,
    trivial,
    alg3,
    trivial,
    alg4,
    trivial,
    alg5,
    trivial,
    alg6⟩

end Cert.Proof

end
